-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![1024, 1024]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 2048]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![1024, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S8 : Shape := ⟨1, ![8]⟩
abbrev S_ : Shape := ⟨0, ![]⟩
abbrev S128x512 : Shape := ⟨2, ![128, 512]⟩
abbrev S128x1024 : Shape := ⟨2, ![128, 1024]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v25 : BitVec 32 := Scalar.muli v6 c2_i32_18
  let v26 : BitVec 32 := Scalar.addi c0_i32_19 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v27 : BitVec 32 := Scalar.muli v5 c1_i32_20
  let v28 : BitVec 32 := Scalar.addi v26 v27
  v28.toNat
def k0_dev3 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v43 : BitVec 32 := Scalar.muli v6 c2_i32_33
  let v44 : BitVec 32 := Scalar.addi c0_i32_34 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v45 : BitVec 32 := Scalar.muli v5 c1_i32_35
  let v46 : BitVec 32 := Scalar.addi v44 v45
  v46.toNat
def k0_dev4 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v61 : BitVec 32 := Scalar.muli v6 c2_i32_47
  let v62 : BitVec 32 := Scalar.addi c0_i32_48 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v63 : BitVec 32 := Scalar.muli v5 c1_i32_49
  let v64 : BitVec 32 := Scalar.addi v62 v63
  v64.toNat
def k0_dev5 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v79 : BitVec 32 := Scalar.muli v6 c2_i32_60
  let v80 : BitVec 32 := Scalar.addi c0_i32_61 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v81 : BitVec 32 := Scalar.muli v5 c1_i32_62
  let v82 : BitVec 32 := Scalar.addi v80 v81
  v82.toNat
def k0_dev6 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v97 : BitVec 32 := Scalar.muli v6 c2_i32_73
  let v98 : BitVec 32 := Scalar.addi c0_i32_74 v97
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v99 : BitVec 32 := Scalar.muli v5 c1_i32_75
  let v100 : BitVec 32 := Scalar.addi v98 v99
  v100.toNat
def k0_dev7 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v115 : BitVec 32 := Scalar.muli v6 c2_i32_86
  let v116 : BitVec 32 := Scalar.addi c0_i32_87 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v117 : BitVec 32 := Scalar.muli v5 c1_i32_88
  let v118 : BitVec 32 := Scalar.addi v116 v117
  v118.toNat
def k0_dev8 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v133 : BitVec 32 := Scalar.muli v6 c2_i32_99
  let v134 : BitVec 32 := Scalar.addi c0_i32_100 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v135 : BitVec 32 := Scalar.muli v5 c1_i32_101
  let v136 : BitVec 32 := Scalar.addi v134 v135
  v136.toNat
def k0_dev9 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v151 : BitVec 32 := Scalar.muli v6 c2_i32_112
  let v152 : BitVec 32 := Scalar.addi c0_i32_113 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v153 : BitVec 32 := Scalar.muli v5 c1_i32_114
  let v154 : BitVec 32 := Scalar.addi v152 v153
  v154.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .f32⟩
  | .hbm, ⟨3, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
The kernel body as three passes over the eight row chunks.

The printed body is straight-line code: a handshake, the right operand copied into its own buffer, then for each of
eight chunks of 128 rows one product and one remote copy, then for each chunk one wait, one sum and one store, and at
last eight waits. Here each chunk's statements are written once, at a chunk number `i : Fin 8`, and the printed body is
shown to be exactly the handshake followed by the three passes over the list of chunks.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Halves

open Cert.KernelIdeal Cert.KernelIdeal.Gen
open Idealize.ShloMosaic Idealize.ShloMosaic.TcCoe
open Idealize.SL Idealize.SL.Sem

variable {F : FTy → Type} [FloatOps F]

/-! ## The buffers -/

/-- The left operand's rows on this device, staged. -/
abbrev aM : Memref sig .tc .vmem S1024x512 .bf16 := Memref.whole cc0_stg0_0
/-- The right operand's block on this device, staged. -/
abbrev bM : Memref sig .tc .vmem S512x1024 .bf16 := Memref.whole cc0_stg1_0
/-- The result, staged. -/
abbrev oM : Memref sig .tc .vmem S1024x1024 .bf16 := Memref.whole cc0_stg2_0
/-- The partial product this device computes and sends. -/
abbrev sM : Memref sig .tc .vmem S1024x1024 .bf16 := Memref.whole cc0_scratch0
/-- Where the other device's partial product lands. -/
abbrev rM : Memref sig .tc .vmem S1024x1024 .bf16 := Memref.whole cc0_scratch1
/-- The kernel's own copy of the right operand's block. -/
abbrev cM : Memref sig .tc .vmem S512x1024 .bf16 := Memref.whole cc0_scratch2

/-! ## Chunk `i`'s rows and semaphores -/

/-- The 128 rows of chunk `i` fit in the 1024 rows of a product. -/
theorem inb_rows (i : Fin 8) : ∀ a, (![128 * i.val, 0] : Fin 2 → Nat) a + S128x1024.size a ≤ S1024x1024.size a := by
  revert i; decide
/-- The 128 rows of chunk `i` fit in the 1024 rows of the left operand. -/
theorem inb_lhs (i : Fin 8) : ∀ a, (![128 * i.val, 0] : Fin 2 → Nat) a + S128x512.size a ≤ S1024x512.size a := by
  revert i; decide
/-- Semaphore `i` is one of the eight. -/
theorem inb_sem (i : Fin 8) : ∀ a, (![i.val] : Fin 1 → Nat) a + S1.size a ≤ S8.size a := by
  revert i; decide

/-- Chunk `i`'s rows of a product. -/
abbrev rowR (i : Fin 8) : Rect S1024x1024 := Rect.unit (s := S1024x1024) ![128 * i.val, 0] S128x1024.size (inb_rows i)
/-- Chunk `i`'s rows of the left operand. -/
abbrev lhsR (i : Fin 8) : Rect S1024x512 := Rect.unit (s := S1024x512) ![128 * i.val, 0] S128x512.size (inb_lhs i)
/-- The whole of the right operand's block. -/
abbrev rhsR : Rect S512x1024 := Rect.unit (s := S512x1024) ![0, 0] S512x1024.size inb_S512x1024_S512x1024_0_0

/-- Chunk `i` of a product buffer. -/
abbrev rows (m : Memref sig .tc .vmem S1024x1024 .bf16) (i : Fin 8) : Memref sig .tc .vmem S128x1024 .bf16 :=
  m.slice (rowR i) (fun _ => rfl)

/-- The semaphore chunk `i`'s departure completes on. -/
abbrev sendS (i : Fin 8) : DmaSem sig :=
  ((cc0_scratch3.slice (Rect.unit (s := S8) ![i.val] S1.size (inb_sem i))).squeeze S_ squeezes_S1_S_ : DmaSems sig S_).sem
/-- The semaphore chunk `i`'s arrival completes on. -/
abbrev recvS (i : Fin 8) : DmaSem sig :=
  ((cc0_scratch4.slice (Rect.unit (s := S8) ![i.val] S1.size (inb_sem i))).squeeze S_ squeezes_S1_S_ : DmaSems sig S_).sem
/-- The barrier semaphore of the two devices' handshake. -/
abbrev barS : Sem sig := (SemArray.scalar (sig.barrier 0 rfl) : Sems sig S_).sem

/-- A chunk of a product is whole rows of words. -/
theorem words_rows (i : Fin 8) : (rowR i).WholeWords (EltTy.packing .bf16) := by revert i; decide
/-- A chunk of a product is whole packed rows. -/
theorem packed_rows (i : Fin 8) : (rowR i).PackedRows (EltTy.packing .bf16) := by revert i; decide

/-- A chunk of a whole product buffer can be copied exactly. -/
theorem exact_rows {m : Memref sig .tc .vmem S1024x1024 .bf16} (hm : m.IsWhole) (i : Fin 8) : (rows m i).view.WordExact :=
  hm.wordExact_slice rfl _ (words_rows i)

/-- A chunk of a whole product buffer can be stored. -/
theorem stores_rows {m : Memref sig .tc .vmem S1024x1024 .bf16} (hm : m.IsWhole) (i : Fin 8) : (m.access (rowR i)).Stores Finset.univ :=
  View.stores_vmem h_S128x1024 (hm.storeExact_slice rfl _ (packed_rows i)) (fun _ => rfl)

/-! ## The payloads -/

/-- The product of one chunk's rows with the right operand's block, as stored. -/
abbrev partOf (a : Vec F S128x512 .bf16) (b : Vec F S512x1024 .bf16) : FVec F S128x1024 .bf16 := k0_pay2 a b
/-- The sum of the two devices' partial products on one chunk, as stored. -/
abbrev sumOf (s r : Vec F S128x1024 .bf16) : FVec F S128x1024 .bf16 := k0_pay12 s r

/-! ## One chunk's statements -/

/-- A program of the kernel body. -/
abbrev Body (F : FTy → Type) [FloatOps F] : Type 1 := Prog (TpuEff nD τ sig (Elt F) Λ₀ .tc) PUnit

/-- First pass, chunk `i`: the product of the chunk's rows is stored in the sending buffer and its copy to device `n` is
    started. -/
def sendStep (n : Dev nD) (i : Fin 8) (k : Body F) : Body F :=
  .op (.load aM (lhsR i).toLoadRect (View.loadsAt_vmem h_S128x512)) fun (a : Vec F S128x512 .bf16) =>
  .op (.load cM rhsR.toLoadRect (View.loadsAt_vmem h_S512x1024)) fun (b : Vec F S512x1024 .bf16) =>
  .op (.load sM (rowR i).toLoadRect (View.loadsAt_vmem h_S128x1024)) fun (_ : Vec F S128x1024 .bf16) =>
  .op (.store sM (rowR i) (partOf a b) Finset.univ (stores_rows (Memref.isWhole_whole _) i) (.inl rfl)) fun _ =>
  .op (.enqueueDma (rows sM i) (.remote (Dev.tc n) (rows rM i) (.dma (sendS i))) (.dma (recvS i))
    (exact_rows (Memref.isWhole_whole _) i) (exact_rows (Memref.isWhole_whole _) i) ⟨⟨rfl, Or.inl rfl⟩, trivial⟩) fun _ => k

/-- Second pass, chunk `i`: the other device's chunk is awaited and the sum of the two is stored in the result. -/
def sumStep (i : Fin 8) (k : Body F) : Body F :=
  .op (.waitDma2 (recvS i) (rows sM i) (rows rM i) (exact_rows (Memref.isWhole_whole _) i) (exact_rows (Memref.isWhole_whole _) i)) fun _ =>
  .op (.load sM (rowR i).toLoadRect (View.loadsAt_vmem h_S128x1024)) fun (s : Vec F S128x1024 .bf16) =>
  .op (.load rM (rowR i).toLoadRect (View.loadsAt_vmem h_S128x1024)) fun (r : Vec F S128x1024 .bf16) =>
  .op (.load oM (rowR i).toLoadRect (View.loadsAt_vmem h_S128x1024)) fun (_ : Vec F S128x1024 .bf16) =>
  .op (.store oM (rowR i) (sumOf s r) Finset.univ (stores_rows (Memref.isWhole_whole _) i) (.inl rfl)) fun _ => k

/-- Third pass, chunk `i`: its own departure is awaited. -/
def doneStep (i : Fin 8) (k : Body F) : Body F :=
  .op (.waitDma2 (sendS i) (rows rM i) (rows sM i) (exact_rows (Memref.isWhole_whole _) i) (exact_rows (Memref.isWhole_whole _) i)) fun _ => k

/-- A pass: a chunk's statements for each chunk of a list in turn. -/
def pass (step : Fin 8 → Body F → Body F) : List (Fin 8) → Body F → Body F
  | [], k => k
  | i :: l, k => step i (pass step l k)

/-- The eight chunks in order. -/
abbrev chunks : List (Fin 8) := [0, 1, 2, 3, 4, 5, 6, 7]

/-- The body behind the device's number `d`: the handshake with device `n`, the copy of the right operand's block, the
    three passes. -/
def bodyOf (n : Dev nD) : Body F :=
  .op (.semSignal (n : Thread nD τ) barS 1) fun _ =>
  .op (.semWait barS 1) fun _ =>
  .op (.load bM rhsR.toLoadRect (View.loadsAt_vmem h_S512x1024)) fun (b : Vec F S512x1024 .bf16) =>
  .op (.load cM rhsR.toLoadRect (View.loadsAt_vmem h_S512x1024)) fun (_ : Vec F S512x1024 .bf16) =>
  .op (.store cM rhsR (k0_pay1 b) Finset.univ
    (View.stores_vmem h_S512x1024 ((Memref.isWhole_whole cc0_scratch2).storeExact_slice rfl _ packedbf16_S512x1024_S512x1024_0_0) (fun _ => rfl)) (.inl rfl)) fun _ =>
  pass (sendStep n) chunks (pass sumStep chunks (pass doneStep chunks (.ret ⟨⟩)))

set_option maxRecDepth 65536 in
/-- The printed body is that: the device reads its own number, and the rest runs with the device it computes from it. -/
theorem body_eq :
    cc0_body (F := F) aM (Memref.isWhole_whole _) bM (Memref.isWhole_whole _) oM (Memref.isWhole_whole _) sM (Memref.isWhole_whole _)
        rM (Memref.isWhole_whole _) cM (Memref.isWhole_whole _) cc0_scratch3 cc0_scratch4
      = .op .deviceId fun d => bodyOf (⟨k0_dev1 d, k0_dev1_lt d⟩ : Dev nD) := by
  rfl

end Cert.Halves

end
-- ==== Proof.Contents.lean ====
/-
What a buffer of 1024 rows holds, chunk by chunk.

The kernel fills and reads its three product buffers in eight chunks of 128 rows. `tile g` is the contents whose chunk
`i` is `g i`; the lemmas say what a chunk's view reads of it and that what a store or a copy writes through a chunk's view
is `tile g` there.
-/
module

public import proofs.«01_k».proof.Proof.Steps
public import Idealize.ShloMosaic.Lib.Ring

@[expose] public section

noncomputable section

namespace Cert.Halves

open Cert.KernelIdeal Cert.KernelIdeal.Gen
open Idealize.ShloMosaic Idealize.ShloMosaic.TcCoe
open Idealize.SL Idealize.SL.Sem

variable {F : FTy → Type} [FloatOps F]

/-- The contents of a product buffer. -/
abbrev Prod (F : FTy → Type) : Type := S1024x1024.Idx → Elt F .bf16

/-! ## The chunk an index lies in -/

/-- The chunk of an index's row. -/
def chunkOf (x : S1024x1024.Idx) : Fin 8 := ⟨(x 0).val / 128, by have := (x 0).isLt; change (x 0).val < 1024 at this; omega⟩

/-- The index within its chunk. -/
def within (x : S1024x1024.Idx) : S128x1024.Idx := fun
  | 0 => ⟨(x 0).val % 128, Nat.mod_lt _ (by decide)⟩
  | 1 => x 1

/-- An index of chunk `i` lies in chunk `i`. -/
theorem chunkOf_emb (i : Fin 8) (j : S128x1024.Idx) : chunkOf ((rowR i).emb j) = i := by
  apply Fin.ext
  have h : ((rowR i).emb j 0).val = 128 * i.val + 1 * (j 0).val := rfl
  have hj : (j 0).val < 128 := (j 0).isLt
  change ((rowR i).emb j 0).val / 128 = i.val
  omega

/-- Within its chunk it is the index it came from. -/
theorem within_emb (i : Fin 8) (j : S128x1024.Idx) : within ((rowR i).emb j) = j := by
  funext a
  apply Fin.ext
  match a with
  | 0 =>
    have h : ((rowR i).emb j 0).val = 128 * i.val + 1 * (j 0).val := rfl
    have hj : (j 0).val < 128 := (j 0).isLt
    change ((rowR i).emb j 0).val % 128 = (j 0).val
    omega
  | 1 =>
    have h : ((rowR i).emb j 1).val = 0 + 1 * (j 1).val := rfl
    change ((rowR i).emb j 1).val = (j 1).val
    omega

/-- Two chunks share no element. -/
theorem rowR_disjoint (i j : Fin 8) (h : i ≠ j) : Disjoint (rowR i).set (rowR j).set :=
  Ring.lead_disjoint (s := S1024x1024) 0 128 (fun i : Fin 8 => ![128 * i.val, 0]) S128x1024.size inb_rows (fun _ => rfl) rfl i j h

/-- The chunks are the whole buffer. -/
theorem rowR_cover : Finset.univ.biUnion (fun i : Fin 8 => (rowR i).set) = Finset.univ :=
  Ring.lead_cover (s := S1024x1024) 0 128 (fun i : Fin 8 => ![128 * i.val, 0]) S128x1024.size inb_rows (fun _ => rfl)
    (by decide) rfl (by decide) rfl

/-! ## Contents by chunks -/

/-- The contents whose chunk `i` is `g i`. -/
def tile (g : Fin 8 → Vec F S128x1024 .bf16) : Prod F := fun x => g (chunkOf x) (within x)

theorem tile_emb (g : Fin 8 → Vec F S128x1024 .bf16) (i : Fin 8) (j : S128x1024.Idx) : tile g ((rowR i).emb j) = g i j := by
  unfold tile; rw [chunkOf_emb, within_emb]

section

variable (v : View sig .tc .vmem S1024x1024 .bf16)

/-- Where a view reads `tile g`, its chunk `i` reads `g i`. -/
theorem read_chunk {f : v.ty.Contents (Elt F)} {g : Fin 8 → Vec F S128x1024 .bf16} (h : v.read (Elt F) f = tile g) (i : Fin 8) :
    (v.slice (rowR i)).read (Elt F) f = g i := by
  funext j
  exact (congrFun h ((rowR i).emb j)).trans (tile_emb g i j)

/-- What a write through a view of contents that `G` reads leaves there is `G`. -/
theorem write_agrees {s : Shape} (V : View sig .tc .vmem s .bf16) (f G : V.ty.Contents (Elt F)) (w : s.Idx → Elt F .bf16)
    (h : V.read (Elt F) G = w) : ∀ x ∈ V.set, V.write (Elt F) f w Finset.univ x = G x := by
  subst h
  intro x hx
  obtain ⟨j, -, rfl⟩ := Finset.mem_map.mp hx
  rw [View.write_emb_of_mem _ _ (Finset.mem_univ j), View.read_apply, cast_cast, cast_eq]

/-- Writing `g i` through chunk `i` gives, on the chunk, contents that read `tile g`. -/
theorem write_chunk (f G : v.ty.Contents (Elt F)) {g : Fin 8 → Vec F S128x1024 .bf16} (h : v.read (Elt F) G = tile g) (i : Fin 8) :
    ∀ x ∈ (v.slice (rowR i)).set, (v.slice (rowR i)).write (Elt F) f (g i) Finset.univ x = G x :=
  write_agrees (v.slice (rowR i)) f G (g i) (read_chunk v h i)

end

end Cert.Halves

end
-- ==== Proof.Sched.lean ====
/-
The protocol between a device and its partner.

Four devices in a 2×2 mesh; a device's partner is the one with the same column and the other row. Every device has
seventeen semaphores of its own: the barrier's, and one departure and one arrival semaphore per chunk. Each is used once:

* the barrier's unit is the partner's, who hands over its landing buffer with it;
* a chunk's departure is paid by the device's own copy and hands back the half share of the sending buffer's rows the
  copy reads (the other half stays with the device, which reads the same rows while the copy may still be under way);
* a chunk's arrival is paid by the partner's copy and hands over the rows of the landing buffer, holding the partner's
  product.
-/
module

public import proofs.«01_k».proof.Proof.Contents
public import proofs.«01_k».proof.Proof.Gen.KernelIdeal.Frame
public import Idealize.ShloMosaic.Lib.Rounds

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the protocol: cells with one duty per round. -/
abbrev UH : Type := URounds (GSem nD τ sig) Unit
/-- The pipeline's resources beside the protocol's. -/
abbrev UU : Type := UR sig nD τ × UH

local notation "𝕄" => MT nD τ sig Unit (Elt F) ℕ UU ℕ

/-- The pipeline's part. -/
abbrev EP : Emb (UR sig nD τ) (MT nD τ sig Unit (Elt F) ℕ UU ℕ) := embL
/-- The protocol's part. -/
abbrev ER : Emb UH (MT nD τ sig Unit (Elt F) ℕ UU ℕ) := embR

variable (m : (ℓ : Loc nD τ sig) → Buf (Elt F) ℓ)

/-! ## Partners -/

set_option backward.proofsInPublic true in
/-- The device of the same column and the other row: device `2x + y` is at row `x`, column `y`. -/
def peer (c : Dev nD) : Dev nD := ⟨(c.val + 2) % 4, Nat.mod_lt _ (by decide)⟩

theorem peer_peer (c : Dev nD) : peer (peer c) = c := by revert c; decide
/-- The device the kernel computes from its own number is its partner. -/
theorem dev_eq (c : Dev nD) : (⟨k0_dev1 c, k0_dev1_lt c⟩ : Dev nD) = peer c := by revert c; decide

/-- Taking partners, as a permutation of the devices. -/
def swap : Dev nD ≃ Dev nD := ⟨peer, peer, peer_peer, peer_peer⟩

theorem eq_peer_comm {c d : Dev nD} : peer d = c ↔ d = peer c :=
  ⟨fun h => by rw [← h, peer_peer], fun h => by rw [h, peer_peer]⟩

/-! ## The cells -/

/-- A semaphore's role: the barrier's, a chunk's departure, a chunk's arrival. -/
abbrev Role : Type := Unit ⊕ Fin 8 ⊕ Fin 8

/-- The semaphore of a role. -/
def csem : Role → SemLoc sig
  | .inl _ => .reg barS
  | .inr (.inl i) => .dma (sendS i)
  | .inr (.inr i) => .dma (recvS i)

/-- The kernel's own semaphores: departures and arrivals. -/
abbrev osem (k : Fin 8 ⊕ Fin 8) : SemLoc sig := csem (.inr k)

theorem csem_injective : Function.Injective csem := by
  intro a b; revert a b; decide

/-- The cell of device `c` in a role. -/
abbrev cell (c : Dev nD) (k : Role) : GSem nD τ sig := ((c : Thread nD τ), csem k)

/-- The barrier cell of device `c`. -/
abbrev barC (c : Dev nD) : GSem nD τ sig := cell c (.inl ())
/-- The cell chunk `i` departs on at device `c`. -/
abbrev sendC (c : Dev nD) (i : Fin 8) : GSem nD τ sig := cell c (.inr (.inl i))
/-- The cell chunk `i` arrives on at device `c`. -/
abbrev recvC (c : Dev nD) (i : Fin 8) : GSem nD τ sig := cell c (.inr (.inr i))

theorem cell_inj {c d : Dev nD} {k l : Role} (h : cell c k = cell d l) : c = d ∧ k = l :=
  ⟨congrArg (fun g : GSem nD τ sig => g.1.1) h, csem_injective (congrArg Prod.snd h)⟩

/-- A semaphore's role, if it has one. -/
def role (s : SemLoc sig) : Option Role := Function.partialInv csem s

theorem role_csem (k : Role) : role (csem k) = some k := Function.partialInv_left csem_injective k

/-- What one chunk's copy counts on a semaphore. -/
abbrev N : ℕ := (rows rM 0).view.dmaCredit
theorem N_pos : 0 < N := View.dmaCredit_pos _ (by decide)

/-! ## Contents -/

/-- The left operand's rows as the pipeline stages them on device `c`. -/
def xA (c : Dev nD) : (cc0_stg0_0 : Ref sig .tc).ty.Contents (Elt F) :=
  (win0_0.blk (0 : Fin 1)).view.read (Elt F) (m ((c : Thread nD τ).loc main_arg0))
/-- The right operand's block as the pipeline stages it on device `c`. -/
def xB (c : Dev nD) : (cc0_stg1_0 : Ref sig .tc).ty.Contents (Elt F) :=
  (win0_1.blk (0 : Fin 1)).view.read (Elt F) (m ((c : Thread nD τ).loc main_arg1))

/-- Device `c`'s product on chunk `i`. -/
def part (c : Dev nD) (i : Fin 8) : Vec F S128x1024 .bf16 :=
  partOf (aM.view.readAt (Elt F) (lhsR i).toLoadRect (xA m c)) (k0_pay1 (xB m c))
/-- Device `c`'s product. -/
def own (c : Dev nD) : Prod F := tile (part m c)
/-- The sum of device `c`'s product and its partner's. -/
def total (c : Dev nD) : Prod F := tile fun i => sumOf (part m c i) (part m (peer c) i)

/-- Share `q` of chunk `i`'s rows of buffer `b` on device `c`, holding what `f` holds there. -/
def rowPts (b : Memref sig .tc .vmem S1024x1024 .bf16) (c : Dev nD) (i : Fin 8) (q : PosShare TreeShare)
    (f : Buf (Elt F) ((rows b i).view.loc (c : Thread nD τ))) : sProp 𝕄 :=
  (rows b i).view.loc (c : Thread nD τ) ↦[(rows b i).view.set]{q} f

omit [FloatOps F] in
instance rowPts_storable (b) (c : Dev nD) (i q f) : BI.Storable (upEmb : UEmb _ 𝕄) (rowPts (F := F) b c i q f) := by
  unfold rowPts; infer_instance

/-! ## The schedule -/

/-- What paying a device's cell hands the device. -/
def pay (c : Dev nD) : Role → sProp 𝕄
  | .inl _ => bigSep Finset.univ fun i => iprop(∃ f, rowPts rM (peer c) i fullShare f)
  | .inr (.inl i) => rowPts sM c i fullShare.right (own m c)
  | .inr (.inr i) => rowPts rM c i fullShare (own m (peer c))

instance pay_storable (c : Dev nD) (k : Role) : BI.Storable (upEmb : UEmb _ 𝕄) (pay m c k) := by
  rcases k with _ | _ | _ <;> (unfold pay; infer_instance)

/-- How much it counts: one unit at the barrier, a chunk's credit elsewhere. -/
def count : Role → ℕ
  | .inl _ => 1
  | .inr _ => N

theorem count_pos (k : Role) : 0 < count k := by rcases k with _ | _; exacts [Nat.one_pos, N_pos]

/-- Every cell with a role has one duty, in round 0. -/
def sched : Rounds.Schedule (GSem nD τ sig) Unit 𝕄 where
  duties g r := if r = 0 ∧ g.1.2 = .tc ∧ (role g.2).isSome then {()} else ∅
  unitless _ := False
  amount g _ _ := (role g.2).elim 1 count
  payload g _ _ := (role g.2).elim iprop(emp) (pay m g.1.1)
  amount_pos g _ _ _ := by cases role g.2; exacts [Nat.one_pos, count_pos _]

instance sched_payload_storable (g : GSem nD τ sig) (r : ℕ) (d : Unit) :
    BI.Storable (upEmb : UEmb _ 𝕄) ((sched m).payload g r d) := by
  dsimp only [sched]
  cases role g.2
  · change BI.Storable upEmb (iprop(emp) : sProp 𝕄); infer_instance
  · exact pay_storable m _ _

section
variable (c : Dev nD) (k : Role)

theorem duties_cell : (sched m).duties (cell c k) 0 = {()} := by
  dsimp only [sched]; rw [role_csem]; exact if_pos ⟨rfl, rfl, rfl⟩
theorem duties_mem : () ∈ (sched m).duties (cell c k) 0 := by rw [duties_cell]; exact Finset.mem_singleton_self _
theorem duties_later (g : GSem nD τ sig) : ∀ r, 1 ≤ r → (sched m).duties g r = ∅ :=
  fun r hr => if_neg fun h => absurd h.1 (by omega)
theorem amount_cell : (sched m).amount (cell c k) 0 () = count k := by dsimp only [sched]; rw [role_csem]; rfl
theorem payload_cell : (sched m).payload (cell c k) 0 () = pay m c k := by dsimp only [sched]; rw [role_csem]; rfl
theorem expect_cell : (sched m).expect (cell c k) 0 = count k := by
  unfold Schedule.expect Schedule.amountOf; rw [duties_cell, Finset.sum_singleton, amount_cell]
/-- The one payload of a cell's round. -/
theorem rest_cell : bigSep ((sched m).duties (cell c k) 0 \ ∅) (fun d => (sched m).payload (cell c k) 0 d) = pay m c k := by
  rw [Finset.sdiff_empty, duties_cell, bigSep_singleton, payload_cell]

end

/-! ## What a device owes at launch, and the order of waits -/

/-- The arrivals device `c` owes its partner, for a list of chunks: the first chunk's is the last summand. -/
def owedFor (c : Dev nD) : List (Fin 8) → CellTallies nD τ sig Unit
  | [] => 0
  | i :: l => owedFor c l + tallyAt (recvC (peer c) i) () N

/-- All it owes: the arrivals and the barrier's unit. -/
def owed₀ (c : Dev nD) : CellTallies nD τ sig Unit := owedFor c chunks + tallyAt (barC (peer c)) () 1

/-- Every TensorCore cell is levelled. -/
def L (g : GSem nD τ sig) : Finset Unit := if g.1.2 = .tc then {()} else ∅
/-- A barrier is waited for below the arrivals, everything else below both. -/
def lv (g : GSem nD τ sig) (_ : Unit) : ℕ :=
  match role g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := by dsimp only [lv]; rw [role_csem]
theorem lv_recv (c : Dev nD) (i : Fin 8) (u : Unit) : lv (recvC c i) u = 2 := by dsimp only [lv]; rw [role_csem]

/-- What is owed of a device's arrival cell. -/
theorem owedFor_recv (d c : Dev nD) (i : Fin 8) : ∀ l : List (Fin 8),
    owedFor d l (recvC c i) () = if d = peer c then l.count i * N else 0
  | [] => by simp [owedFor]
  | j :: l => by
    unfold owedFor
    rw [Pi.add_apply, Finsupp.add_apply, owedFor_recv d c i l, tallyAt_apply]
    by_cases hd : d = peer c
    · subst hd
      rw [peer_peer, if_pos rfl, if_pos rfl, List.count_cons]
      by_cases hj : j = i
      · subst hj; rw [if_pos ⟨rfl, rfl⟩, if_pos (by simp), Nat.add_mul, Nat.one_mul]
      · rw [if_neg (fun h => hj (by have := (cell_inj h.1).2; simp only [Sum.inr.injEq] at this; exact this.symm)), if_neg (by simpa using hj), Nat.add_zero, Nat.add_zero]
    · rw [if_neg hd, if_neg hd, if_neg (fun h => hd (eq_peer_comm.mp (cell_inj h.1).1.symm))]

/-- Only arrivals are among them. -/
theorem owedFor_pos (d : Dev nD) {g : GSem nD τ sig} {u : Unit} : ∀ l : List (Fin 8),
    0 < owedFor d l g u → ∃ i, g = recvC (peer d) i
  | [], h => absurd h (by simp [owedFor])
  | j :: l, h => by
    unfold owedFor at h
    rw [Pi.add_apply, Finsupp.add_apply, tallyAt_apply] at h
    by_cases hj : g = recvC (peer d) j ∧ u = ()
    · exact ⟨j, hj.1⟩
    · rw [if_neg hj, Nat.add_zero] at h; exact owedFor_pos d l h

theorem owed₀_pos (d : Dev nD) {g : GSem nD τ sig} {u : Unit} (h : 0 < owed₀ d g u) :
    (∃ i, g = recvC (peer d) i) ∨ g = barC (peer d) := by
  unfold owed₀ at h
  rw [Pi.add_apply, Finsupp.add_apply, tallyAt_apply] at h
  by_cases hb : g = barC (peer d) ∧ u = ()
  · exact .inr hb.1
  · rw [if_neg hb, Nat.add_zero] at h; exact .inl (owedFor_pos d chunks h)

/-- Below what is owed a device may wait: on a semaphore of level `n` while it owes only cells above `n`. -/
theorem mayWait_of (c : Dev nD) (sm : SemLoc sig) (n : ℕ) (O : CellTallies nD τ sig Unit)
    (hsm : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- At its barrier a device may wait while it owes its partner arrivals. -/
theorem mayWait_bar (c : Dev nD) (l : List (Fin 8)) :
    (levAts L lv : sProp 𝕄) ⊢ MayWait (c : Thread nD τ) (.reg barS) () (owedFor c l) :=
  mayWait_of c _ 1 _ (lv_bar c ()).le fun g u h => by
    obtain ⟨i, rfl⟩ := owedFor_pos c l h
    exact ⟨rfl, by rw [lv_recv]; decide⟩

/-- On a semaphore without a role it may always wait. -/
theorem mayWait_stage (c : Dev nD) (sm : SemLoc sig) (hsm : ∀ k, csem k ≠ sm) :
    (levAts L lv : sProp 𝕄) ⊢ MayWait (c : Thread nD τ) sm () (owed₀ c) := by
  have hr : role sm = none := by
    unfold role Function.partialInv
    exact dif_neg fun ⟨k, hk⟩ => hsm k hk
  refine mayWait_of c sm 0 _ (by dsimp only [lv]; rw [hr]) fun g u h => ?_
  rcases owed₀_pos c h with ⟨i, rfl⟩ | rfl
  · exact ⟨rfl, by rw [lv_recv]; decide⟩
  · exact ⟨rfl, by rw [lv_bar]; decide⟩

end Cert.Halves

end
-- ==== Proof.Passes.lean ====
/-
The three passes, one chunk at a time.

`wp_pass` runs a pass from what its chunks need to what they leave, given the same for a single chunk; the three chunk
lemmas below are what it is applied to.
-/
module

public import proofs.«01_k».proof.Proof.Sched
public import Idealize.ShloMosaic.Lib.Pipeline.BigSepL

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No variants: nothing in the program loops. -/
abbrev 𝒱₀ : Variants := Variants.none

/-- Device `c` runs the program `k` to the post `Q`. -/
abbrev runs (c : Dev nD) (k : Body F) (Q : PUnit → sProp 𝕄) : sProp 𝕄 :=
  wp frame (wpE (defs₀ (F := F)) 𝒱₀ (c : Thread nD τ) none) Set.univ k Q

/-! ## A pass from its chunks -/

/-- A pass over a list of chunks: where a chunk's statements take the state `I (i :: l)` and the chunk's `Pre i` to `I l` and
    its `Post i`, the pass takes the state and every chunk's `Pre` to the last state and every chunk's `Post`. -/
theorem wp_pass (c : Dev nD) {step : Fin 8 → Body F → Body F} {I : List (Fin 8) → sProp 𝕄} {Pre Post : Fin 8 → sProp 𝕄}
    (h : ∀ i l k Q, iprop(I (i :: l) ∗ Pre i) ⊢ iprop((iprop(I l ∗ Post i) -∗ runs c k Q) -∗ runs c (step i k) Q)) :
    ∀ l k Q, iprop(I l ∗ bigSepL l Pre) ⊢ iprop((iprop(I [] ∗ bigSepL l Post) -∗ runs c k Q) -∗ runs c (pass step l k) Q)
  | [], k, Q => by
    iintro ⟨HI, HP⟩ Hk
    iapply Hk
    isplitl [HI]; · iexact HI
    iexact HP
  | i :: l, k, Q => by
    rw [bigSepL_cons', bigSepL_cons']
    iintro ⟨HI, Hi, Hl⟩ Hk
    iapply (h i l (pass step l k) Q) $$ [HI Hi]
    · isplitl [HI] <;> iassumption
    iintro ⟨HI, Hi⟩
    iapply (wp_pass c h l k Q) $$ [HI Hl]
    · isplitl [HI] <;> iassumption
    iintro ⟨HI, Hl⟩
    iapply Hk
    isplitl [HI]; · iexact HI
    isplitl [Hi] <;> iassumption

omit [FloatOps F] in
theorem bigSep_chunks (Φ : Fin 8 → sProp 𝕄) : bigSep Finset.univ Φ = bigSepL chunks Φ :=
  bigSep_univ_eq_bigSepL chunks (by decide) (by decide) Φ

/-- The same over all eight chunks. -/
theorem wp_pass_all (c : Dev nD) {step : Fin 8 → Body F → Body F} (I : List (Fin 8) → sProp 𝕄) (Pre Post : Fin 8 → sProp 𝕄)
    (h : ∀ i l k Q, iprop(I (i :: l) ∗ Pre i) ⊢ iprop((iprop(I l ∗ Post i) -∗ runs c k Q) -∗ runs c (step i k) Q)) (k : Body F)
    (Q : PUnit → sProp 𝕄) :
    iprop(I chunks ∗ bigSep Finset.univ Pre)
      ⊢ iprop((iprop(I [] ∗ bigSep Finset.univ Post) -∗ runs c k Q) -∗ runs c (pass step chunks k) Q) := by
  rw [bigSep_chunks, bigSep_chunks]; exact wp_pass c h chunks k Q

/-! ## The records every device keeps of the cells -/

/-- Every cell's invariant, under the name it was allocated at, and that every cell has reached its round. -/
def records (K : Dev nD × Role → ℕ) : sProp 𝕄 :=
  iprop((bigSep Finset.univ fun ck : Dev nD × Role => cellInv ER (sched m) (K ck) (cell ck.1 ck.2))
    ∗ bigSep Finset.univ fun ck : Dev nD × Role => reached ER (cell ck.1 ck.2) 0)

instance records_persistent (K : Dev nD × Role → ℕ) : BI.Persistent (records m K) := by unfold records; infer_instance

theorem inv_at (K : Dev nD × Role → ℕ) (c : Dev nD) (k : Role) :
    records m K ⊢ (cellInv ER (sched m) (K (c, k)) (cell c k) : sProp 𝕄) := by
  unfold records
  iintro ⟨H, -⟩
  iapply (show (bigSep Finset.univ fun ck : Dev nD × Role => (cellInv ER (sched m) (K ck) (cell ck.1 ck.2) : sProp 𝕄))
    ⊢ cellInv ER (sched m) (K (c, k)) (cell c k) from bigSep_elim (Finset.mem_univ (c, k)))
  iexact H

theorem reached_at (K : Dev nD × Role → ℕ) (c : Dev nD) (k : Role) :
    records m K ⊢ (reached ER (cell c k) 0 : sProp 𝕄) := by
  unfold records
  iintro ⟨-, H⟩
  iapply (show (bigSep Finset.univ fun ck : Dev nD × Role => (reached ER (cell ck.1 ck.2) 0 : sProp 𝕄))
    ⊢ reached ER (cell c k) 0 from bigSep_elim (Finset.mem_univ (c, k)))
  iexact H

/-! ## A wait on one of a device's own cells, and its close -/

/-- A device that waits for its cell's count, allowed to wait there, gets the cell's payload and the counter back at zero. -/
theorem wp_await (K : Dev nD × Role → ℕ) (c : Dev nD) (κ : Role) {w : TpuEff nD τ sig (Elt F) Λ₀ .tc PUnit} {n : ℕ} (hn : n = count κ)
    (hw : ∀ R : PUnit → sProp 𝕄, wpE (defs₀ (F := F)) 𝒱₀ (c : Thread nD τ) none Set.univ w R = waitSpec (c : Thread nD τ) Set.univ (csem κ) n R)
    (k : Body F) (O : CellTallies nD τ sig Unit) (Q : PUnit → sProp 𝕄) :
    iprop(records m K ∗ cred (tallyAt (cell c κ) () (count κ)) ∗ (∃ W, owes (c : Thread nD τ) O W) ∗ MayWait (c : Thread nD τ) (csem κ) () O
        ∗ atPos ER (cell c κ) 0 ∅ 0)
      ⊢ iprop((iprop((∃ W, owes (c : Thread nD τ) O W) ∗ semVal (cell c κ) 0 ∗ pay m c κ) -∗ runs c k Q)
          -∗ runs c (.op w fun _ => k) Q) := by
  subst hn
  iintro ⟨#HR, Hc, ⟨%W, HO⟩, Hmay, Hat⟩ Hk
  ihave HI := (inv_at m K c κ) $$ HR
  icases HI with #HI
  iapply (Rounds.wp_wait_rest_token 𝒱₀ ER (sched m) (c : Thread nD τ) none (κ := K (c, κ)) hw (Set.mem_univ _) ()
      (O := O) (W := W) (R := 0) (m := 0) (T := ∅) (by rw [Nat.zero_add, expect_cell])) $$ [Hc HO Hmay Hat]
  · isplitr; · iexact HI
    isplitl [Hc]; · iexact Hc
    isplitl [HO]; · iexact HO
    isplitl [Hmay]; · iexact Hmay
    iexact Hat
  iintro ⟨HO, Hat, -, Hpay⟩
  ihave Hp := (Entails.of_eq (rest_cell m c κ)) $$ Hpay
  imod (Rounds.cell_close ER (sched m) (Set.mem_univ (K (c, κ))) (fun h => h) (R := 0 + 1) (duties_later m (cell c κ))) $$ [Hat] with Hz
  · isplitr; · iexact HI
    iexact Hat
  iapply Hk
  isplitl [HO]; · iexists _; iexact HO
  isplitl [Hz] <;> iassumption

/-! ## First pass -/

/-- The state of the first pass before the chunks of `l`: the operands, and the arrivals still owed. -/
def sending (K : Dev nD × Role → ℕ) (c : Dev nD) (l : List (Fin 8)) : sProp 𝕄 :=
  iprop(records m K ∗ (((c : Thread nD τ).loc cc0_stg0_0) ↦{fullShare} xA m c) ∗ (((c : Thread nD τ).loc cc0_scratch2) ↦{fullShare} k0_pay1 (xB m c))
    ∗ ∃ W, owes (c : Thread nD τ) (owedFor c l) W)

/-- What chunk `i` of the first pass needs: its rows here and where they are to land, and the right to both payments. -/
def toSend (c : Dev nD) (i : Fin 8) : sProp 𝕄 :=
  iprop((∃ f, rowPts sM c i fullShare f) ∗ (∃ f, rowPts rM (peer c) i fullShare f)
    ∗ dutyTok ER (sendC c i) 0 () ∗ dutyTok ER (recvC (peer c) i) 0 ())

/-- What it leaves: half of its rows holding the product, and the credit of the departure. -/
def sent (c : Dev nD) (i : Fin 8) : sProp 𝕄 :=
  iprop(rowPts sM c i fullShare.left (own m c) ∗ cred (tallyAt (sendC c i) () N))

theorem off_zero : (![0, 0] : Fin 2 → Nat) = fun _ => 0 := funext fun a => by fin_cases a <;> rfl

/-- The copied right operand reads back whole. -/
theorem read_rhs (f : (cc0_scratch2 : Ref sig .tc).ty.Contents (Elt F)) : cM.view.readAt (Elt F) rhsR.toLoadRect f = f :=
  Memref.readAt_unit_zero (Elt F) cc0_scratch2 off_zero _ f

/-- A whole buffer reads back its contents. -/
theorem read_s (f : Prod F) : sM.view.read (Elt F) f = f := View.read_whole cc0_scratch0 f
theorem read_r (f : Prod F) : rM.view.read (Elt F) f = f := View.read_whole cc0_scratch1 f
theorem read_o (f : Prod F) : oM.view.read (Elt F) f = f := View.read_whole cc0_stg2_0 f

/-- Chunk `i` of a device's product, read. -/
theorem read_own (c : Dev nD) (i : Fin 8) : (rows sM i).view.read (Elt F) (own m c) = part m c i :=
  read_chunk sM.view (g := part m c) (read_s (own m c)) i

/-- Rows that `g i` was written to hold what `tile g` holds there. -/
theorem rowPts_write (b : Memref sig .tc .vmem S1024x1024 .bf16) (c : Dev nD) (i : Fin 8) (f G : b.view.ty.Contents (Elt F))
    (g : Fin 8 → Vec F S128x1024 .bf16) (h : b.view.read (Elt F) G = tile g) :
    (rowPts b c i fullShare ((rows b i).view.write (Elt F) f (g i) Finset.univ) : sProp 𝕄) = rowPts b c i fullShare G :=
  pointsTo_congr (write_chunk b.view f G h i)

theorem credit_recv (i : Fin 8) : (rows rM i).view.dmaCredit = N := rfl
theorem credit_send (i : Fin 8) : (rows sM i).view.dmaCredit = N := rfl

/-- The rows a product is stored in hold it. -/
theorem stored_own (c : Dev nD) (i : Fin 8) (f : Prod F) :
    rowPts sM c i fullShare ((rows sM i).view.write (Elt F) f (part m c i) Finset.univ) = rowPts sM c i fullShare (own m c) :=
  rowPts_write sM c i f (own m c) (part m c) (read_s (own m c))

/-- The rows it lands in hold it too. -/
theorem landed_own (c d : Dev nD) (i : Fin 8) (f : Prod F) :
    rowPts rM d i fullShare ((rows rM i).view.write (Elt F) f ((rows sM i).view.read (Elt F) (own m c)) Finset.univ)
      = rowPts rM d i fullShare (own m c) := by
  rw [read_own]; exact rowPts_write rM d i f (own m c) (part m c) (read_r (own m c))

/-- The rows' two half shares. -/
theorem rowPts_halves (b) (c : Dev nD) (i : Fin 8) (f) :
    (rowPts b c i fullShare f : sProp 𝕄) ⊣⊢ iprop(rowPts b c i fullShare.left f ∗ rowPts b c i fullShare.right f) :=
  pointsTo_share (PosShare.mem_left_op_right fullShare)

/-- The copy of chunk `i` to the partner. -/
theorem wp_copy_chunk (K : Dev nD × Role → ℕ) (c : Dev nD) (i : Fin 8) (l : List (Fin 8)) (k : Body F) (Q : PUnit → sProp 𝕄) (fd : Prod F)
    (W : Waits sig Unit) {hsc : (rows rM i).view.ref.isScScratch = false} {hsrc : (rows sM i).view.WordExact}
    {hdst : (rows rM i).view.WordExact}
    {hsem : DmaTarget.Typed .vmem (.dma (recvS i)) (.remote (Dev.tc (peer c) : Thread nD τ) (rows rM i) (.dma (sendS i)) hsc)} :
    iprop(records m K ∗ rowPts sM c i fullShare.right (own m c) ∗ rowPts rM (peer c) i fullShare fd
        ∗ owes (c : Thread nD τ) (owedFor c (i :: l)) W ∗ dutyTok ER (sendC c i) 0 () ∗ dutyTok ER (recvC (peer c) i) 0 ())
      ⊢ iprop((iprop(cred (tallyAt (sendC c i) () N) ∗ owes (c : Thread nD τ) (owedFor c l) W) -∗ runs c k Q)
          -∗ runs c (.op (.enqueueDma (rows sM i) (.remote (Dev.tc (peer c) : Thread nD τ) (rows rM i) (.dma (sendS i)) hsc) (.dma (recvS i)) hsrc hdst hsem)
              fun _ => k) Q) := by
  iintro ⟨#HR, HS, HL, HO, Ht, Ht'⟩ Hk
  iapply (Rounds.wp_send_pointsTo 𝒱₀ ER (sched m) (c : Thread nD τ) none (κ₁ := K (c, .inr (.inl i))) (κ₂ := K (peer c, .inr (.inr i)))
      (r₁ := 0) (r₂ := 0) (d₁ := ()) (d₂ := ()) (fs := own m c) (fd := fd) (q := fullShare.right)
      (duties_mem m c (.inr (.inl i))) (duties_mem m (peer c) (.inr (.inr i))) () () N (credit_recv i)
      (amount_cell m c _) (amount_cell m (peer c) _) (owedFor c l) rfl (W := W)
      (by rw [payload_cell m c (.inr (.inl i))]; exact BI.Entails.refl _)
      (by rw [payload_cell m (peer c) (.inr (.inr i))]
          refine (Entails.of_eq (landed_own m c (peer c) i fd)).trans (Entails.of_eq ?_)
          unfold pay; rw [peer_peer])) $$ [HS HL HO Ht Ht']
  · isplitr; · iapply (inv_at m K c (.inr (.inl i))); iexact HR
    isplitr; · iapply (inv_at m K (peer c) (.inr (.inr i))); iexact HR
    isplitl [HS]; · unfold rowPts; iexact HS
    isplitl [HL]; · unfold rowPts; iexact HL
    isplitl [HO]; · iexact HO
    isplitl [Ht]; · iexact Ht
    isplitr; · iapply (reached_at m K c (.inr (.inl i))); iexact HR
    isplitl [Ht']; · iexact Ht'
    iapply (reached_at m K (peer c) (.inr (.inr i))); iexact HR
  iexact Hk

/-- One chunk of the first pass. -/
theorem wp_sendStep (K : Dev nD × Role → ℕ) (c : Dev nD) (i : Fin 8) (l : List (Fin 8)) (k : Body F) (Q : PUnit → sProp 𝕄) :
    iprop(sending m K c (i :: l) ∗ toSend c i)
      ⊢ iprop((iprop(sending m K c l ∗ sent m c i) -∗ runs c k Q) -∗ runs c (sendStep (peer c) i k) Q) := by
  unfold sending toSend sent sendStep
  iintro ⟨⟨#HR, HA, HC, ⟨%W, HO⟩⟩, ⟨%f, HS⟩, ⟨%g, HL⟩, Ht, Ht'⟩ Hk
  iapply (wp_load 𝒱₀ (c : Thread nD τ) none Set.univ (m := aM) (Finset.subset_univ _)) $$ HA; iintro HA
  iapply (wp_load 𝒱₀ (c : Thread nD τ) none Set.univ (m := cM) (Finset.subset_univ _)) $$ HC; iintro HC
  rw [read_rhs]
  iapply (wp_load_rect 𝒱₀ (c : Thread nD τ) none Set.univ (m := sM) (r := rowR i) (S := (rows sM i).view.set) Finset.Subset.rfl) $$ [HS]
  · unfold rowPts; iexact HS
  iintro HS
  iapply (wp_store 𝒱₀ (c : Thread nD τ) none Set.univ (m := sM) (r := rowR i) (Mk := Finset.univ) (S := (rows sM i).view.set) Finset.Subset.rfl) $$ HS
  iintro HS
  ihave HS := (Entails.of_eq (stored_own m c i f)) $$ [HS]
  · unfold rowPts part; iexact HS
  ihave HS := (rowPts_halves sM c i (own m c)).1 $$ HS
  icases HS with ⟨HS, HS'⟩
  iapply (wp_copy_chunk m K c i l k Q g W) $$ [HS' HL HO Ht Ht']
  · isplitr; · iexact HR
    isplitl [HS']; · iexact HS'
    isplitl [HL]; · iexact HL
    isplitl [HO]; · iexact HO
    isplitl [Ht] <;> iassumption
  iintro ⟨Hc, HO⟩
  iapply Hk
  isplitl [HA HC HO]
  · isplitr; · iexact HR
    isplitl [HA]; · iexact HA
    isplitl [HC]; · iexact HC
    iexists W; iexact HO
  isplitl [HS] <;> iassumption

/-! ## Second pass -/

/-- The state of the last two passes: nothing is owed. -/
def settled (K : Dev nD × Role → ℕ) (c : Dev nD) : sProp 𝕄 :=
  iprop(records m K ∗ ∃ W, owes (c : Thread nD τ) 0 W)

/-- What chunk `i` of the second pass needs: its arrival to wait for, half of its rows of the product, its rows of the
    result. -/
def toSum (c : Dev nD) (i : Fin 8) : sProp 𝕄 :=
  iprop(cred (tallyAt (recvC c i) () N) ∗ atPos ER (recvC c i) 0 ∅ 0 ∗ rowPts sM c i fullShare.left (own m c) ∗ ∃ f, rowPts oM c i fullShare f)

/-- What it leaves: the arrival's counter at zero, the partner's product, the product, and the sum. -/
def summed (c : Dev nD) (i : Fin 8) : sProp 𝕄 :=
  iprop(semVal (recvC c i) 0 ∗ rowPts rM c i fullShare (own m (peer c)) ∗ rowPts sM c i fullShare.left (own m c) ∗ rowPts oM c i fullShare (total m c))

/-- Chunk `i` of what landed, read. -/
theorem read_landed (c : Dev nD) (i : Fin 8) : (rows rM i).view.read (Elt F) (own m c) = part m c i :=
  read_chunk rM.view (g := part m c) (read_r (own m c)) i

/-- The rows a sum is stored in hold it. -/
theorem stored_total (c : Dev nD) (i : Fin 8) (f : Prod F) :
    rowPts oM c i fullShare ((rows oM i).view.write (Elt F) f (sumOf (part m c i) (part m (peer c) i)) Finset.univ)
      = rowPts oM c i fullShare (total m c) :=
  rowPts_write oM c i f (total m c) (fun i => sumOf (part m c i) (part m (peer c) i)) (read_o (total m c))

/-- One chunk of the second pass. -/
theorem wp_sumStep (K : Dev nD × Role → ℕ) (c : Dev nD) (i : Fin 8) (k : Body F) (Q : PUnit → sProp 𝕄) :
    iprop(settled m K c ∗ toSum m c i)
      ⊢ iprop((iprop(settled m K c ∗ summed m c i) -∗ runs c k Q) -∗ runs c (sumStep i k) Q) := by
  unfold settled toSum summed sumStep
  iintro ⟨⟨#HR, HO⟩, Hc, Hat, HS, ⟨%f, Hout⟩⟩ Hk
  iapply (wp_await m K c (.inr (.inr i)) (credit_recv i) (wpE_waitDma2_eq 𝒱₀ (c : Thread nD τ) none Set.univ) _ 0) $$ [Hc HO Hat]
  · isplitr; · iexact HR
    isplitl [Hc]; · iexact Hc
    isplitl [HO]; · iexact HO
    isplitr; · rw [MayWait_zero]; iempintro
    iexact Hat
  iintro ⟨HO, Hz, HL⟩
  unfold pay
  iapply (wp_load_rect 𝒱₀ (c : Thread nD τ) none Set.univ (m := sM) (r := rowR i) (S := (rows sM i).view.set) Finset.Subset.rfl) $$ [HS]
  · unfold rowPts; iexact HS
  iintro HS
  iapply (wp_load_rect 𝒱₀ (c : Thread nD τ) none Set.univ (m := rM) (r := rowR i) (S := (rows rM i).view.set) Finset.Subset.rfl) $$ [HL]
  · unfold rowPts; iexact HL
  iintro HL
  iapply (wp_load_rect 𝒱₀ (c : Thread nD τ) none Set.univ (m := oM) (r := rowR i) (S := (rows oM i).view.set) Finset.Subset.rfl) $$ [Hout]
  · unfold rowPts; iexact Hout
  iintro Hout
  iapply (wp_store 𝒱₀ (c : Thread nD τ) none Set.univ (m := oM) (r := rowR i) (Mk := Finset.univ) (S := (rows oM i).view.set) Finset.Subset.rfl) $$ Hout
  iintro Hout
  ihave Hout := (show _ ⊢ rowPts oM c i fullShare (total m c) from Entails.of_eq (by
    rw [← stored_total m c i f, ← read_own m c i, ← read_landed m (peer c) i]; rfl)) $$ Hout
  iapply Hk
  isplitl [HO]
  · isplitr; · iexact HR
    iexact HO
  isplitl [Hz]; · iexact Hz
  unfold rowPts
  isplitl [HL]; · iexact HL
  isplitl [HS] <;> iassumption

/-! ## Third pass -/

/-- What chunk `i` of the third pass needs: its departure to wait for. -/
def toDone (c : Dev nD) (i : Fin 8) : sProp 𝕄 :=
  iprop(cred (tallyAt (sendC c i) () N) ∗ atPos ER (sendC c i) 0 ∅ 0)

/-- What it leaves: the departure's counter at zero and the half of its rows the copy read. -/
def done (c : Dev nD) (i : Fin 8) : sProp 𝕄 :=
  iprop(semVal (sendC c i) 0 ∗ rowPts sM c i fullShare.right (own m c))

/-- One chunk of the third pass. -/
theorem wp_doneStep (K : Dev nD × Role → ℕ) (c : Dev nD) (i : Fin 8) (k : Body F) (Q : PUnit → sProp 𝕄) :
    iprop(settled m K c ∗ toDone c i)
      ⊢ iprop((iprop(settled m K c ∗ done m c i) -∗ runs c k Q) -∗ runs c (doneStep i k) Q) := by
  unfold settled toDone done doneStep
  iintro ⟨⟨#HR, HO⟩, Hc, Hat⟩ Hk
  iapply (wp_await m K c (.inr (.inl i)) (credit_send i) (wpE_waitDma2_eq 𝒱₀ (c : Thread nD τ) none Set.univ) _ 0) $$ [Hc HO Hat]
  · isplitr; · iexact HR
    isplitl [Hc]; · iexact Hc
    isplitl [HO]; · iexact HO
    isplitr; · rw [MayWait_zero]; iempintro
    iexact Hat
  iintro ⟨HO, Hz, HS⟩
  unfold pay
  iapply Hk
  isplitl [HO]
  · isplitr; · iexact HR
    iexact HO
  isplitl [Hz] <;> iassumption

end Cert.Halves

end
-- ==== Proof.Body.lean ====
/-
The kernel body on one device, from what the launch gives it to what it leaves.
-/
module

public import proofs.«01_k».proof.Proof.Passes
public import Idealize.ShloMosaic.Lib.Pipeline.FrameBody

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A buffer and its chunks -/

theorem rows_disjoint (b : Memref sig .tc .vmem S1024x1024 .bf16) (i j : Fin 8) (h : i ≠ j) : Disjoint (rows b i).view.set (rows b j).view.set := by
  change Disjoint (b.view.slice (rowR i)).set (b.view.slice (rowR j)).set
  rw [View.set_slice, View.set_slice, Finset.disjoint_map]
  exact rowR_disjoint i j h

theorem rows_cover (b : Memref sig .tc .vmem S1024x1024 .bf16) (x) (hx : x ∈ b.view.set) : ∃ i : Fin 8, x ∈ (rows b i).view.set := by
  obtain ⟨y, -, rfl⟩ := Finset.mem_map.mp hx
  obtain ⟨i, -, hi⟩ := Finset.mem_biUnion.mp (by rw [rowR_cover]; exact Finset.mem_univ y)
  refine ⟨i, ?_⟩
  change _ ∈ (b.view.slice (rowR i)).set
  rw [View.set_slice]
  exact Finset.mem_map_of_mem _ hi

/-- A whole product buffer is its eight chunks. -/
theorem whole_rows (b : Memref sig .tc .vmem S1024x1024 .bf16) (hb : b.view.set = Finset.univ) (c : Dev nD) (q : PosShare TreeShare)
    (f : Buf (Elt F) (b.view.loc (c : Thread nD τ))) :
    (b.view.loc (c : Thread nD τ) ↦{q} f : sProp 𝕄) = bigSep Finset.univ fun i : Fin 8 => rowPts b c i q f := by
  unfold rowPts
  exact Ring.pointsTo_blocks (ℓ := b.view.loc (c : Thread nD τ)) (fun i : Fin 8 => (rows b i).view.set) (rows_disjoint b)
    (Finset.eq_univ_of_forall fun x => (rows_cover b x (by rw [hb]; exact Finset.mem_univ x)).elim fun i hi => Finset.mem_biUnion.mpr ⟨i, Finset.mem_univ _, hi⟩) f

/-- Held at some contents, so is each chunk. -/
theorem rows_of_some (b : Memref sig .tc .vmem S1024x1024 .bf16) (hb : b.view.set = Finset.univ) (c : Dev nD)
    (f : Buf (Elt F) (b.view.loc (c : Thread nD τ))) :
    (b.view.loc (c : Thread nD τ) ↦{fullShare} f : sProp 𝕄) ⊢ bigSep Finset.univ fun i : Fin 8 => iprop(∃ f, rowPts b c i fullShare f) :=
  (Entails.of_eq (whole_rows b hb c fullShare f)).trans (bigSep_mono fun i _ => show rowPts b c i fullShare f ⊢ iprop(∃ f, rowPts b c i fullShare f) from by iintro H; iexists f; iexact H)

/-! ## What the body starts from and leaves -/

/-- The protocol's resources of device `c`: the records, its positions at its cells, and the right to pay its partner's
    barrier, its own departures and its partner's arrivals. -/
def ghost (K : Dev nD × Role → ℕ) (c : Dev nD) : sProp 𝕄 :=
  iprop(records m K ∗ (atPos ER (barC c) 0 ∅ 0 ∗ (bigSep Finset.univ fun i => atPos ER (sendC c i) 0 ∅ 0) ∗ (bigSep Finset.univ fun i => atPos ER (recvC c i) 0 ∅ 0))
    ∗ (dutyTok ER (barC (peer c)) 0 () ∗ (bigSep Finset.univ fun i => dutyTok ER (sendC c i) 0 ()) ∗ (bigSep Finset.univ fun i => dutyTok ER (recvC (peer c) i) 0 ())))

/-- With the credit of what its partner owes it and the order of waits. -/
def start (c : Dev nD) : sProp 𝕄 :=
  iprop((∃ K, ghost m K c) ∗ cred (tallyAt (barC c) () 1) ∗ (bigSep Finset.univ fun i => cred (tallyAt (recvC c i) () N)) ∗ levAts L lv)

/-- The kernel's own three buffers, at some contents. -/
def scratch (c : Dev nD) : sProp 𝕄 :=
  iprop((∃ f : Prod F, ((c : Thread nD τ).loc cc0_scratch0) ↦{fullShare} f) ∗ (∃ f : Prod F, ((c : Thread nD τ).loc cc0_scratch1) ↦{fullShare} f)
    ∗ (∃ f : S512x1024.Idx → Elt F .bf16, ((c : Thread nD τ).loc cc0_scratch2) ↦{fullShare} f))

/-- Every one of its counters at zero. -/
def zeros (c : Dev nD) : sProp 𝕄 :=
  iprop(semVal (barC c) 0 ∗ (bigSep Finset.univ fun i => semVal (sendC c i) 0) ∗ (bigSep Finset.univ fun i => semVal (recvC c i) 0))

/-- What the pipeline is told of the body: the operands' windows keep their contents, the result's holds the sum. -/
def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => xB m c
    | ⟨2, _⟩ => total m c
  Φ t := match t with
    | ⟨0, _⟩ => iprop(start m c ∗ scratch c)
    | ⟨_ + 1, _⟩ => iprop(zeros c ∗ scratch c)
  q _ := fullShare
  owed t := match t with
    | ⟨0, _⟩ => owed₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` of device `c` holds `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

theorem read_b (f : (cc0_stg1_0 : Ref sig .tc).ty.Contents (Elt F)) : bM.view.readAt (Elt F) rhsR.toLoadRect f = f :=
  Memref.readAt_unit_zero (Elt F) cc0_stg1_0 off_zero _ f

theorem write_rhs (f w : (cc0_scratch2 : Ref sig .tc).ty.Contents (Elt F)) :
    (cM.access rhsR : View sig .tc _ _ _).write (Elt F) f w Finset.univ = w :=
  Memref.write_access_unit_zero_univ (Elt F) cc0_scratch2 off_zero _ f w

/-- The handshake and the copy of the right operand: from the launch's resources to the first pass's. -/
theorem wp_bodyOf (K : Dev nD × Role → ℕ) (c : Dev nD) (Q : PUnit → sProp 𝕄) :
    iprop(ghost m K c ∗ cred (tallyAt (barC c) () 1) ∗ (bigSep Finset.univ fun i => cred (tallyAt (recvC c i) () N)) ∗ levAts L lv ∗ scratch c
        ∗ (∃ W, owes (c : Thread nD τ) (owed₀ c) W)
        ∗ (((c : Thread nD τ).loc cc0_stg0_0) ↦{fullShare} xA m c) ∗ (((c : Thread nD τ).loc cc0_stg1_0) ↦{fullShare} xB m c)
        ∗ (∃ f : Prod F, ((c : Thread nD τ).loc cc0_stg2_0) ↦{fullShare} f))
      ⊢ iprop((iprop(zeros c ∗ scratch c ∗ (∃ W, owes (c : Thread nD τ) 0 W)
            ∗ (((c : Thread nD τ).loc cc0_stg0_0) ↦{fullShare} xA m c) ∗ (((c : Thread nD τ).loc cc0_stg1_0) ↦{fullShare} xB m c)
            ∗ (((c : Thread nD τ).loc cc0_stg2_0) ↦{fullShare} total m c)) -∗ Q ⟨⟩)
          -∗ runs c (bodyOf (peer c)) Q) := by
  unfold ghost scratch bodyOf
  iintro ⟨⟨#HR, ⟨HatB, HatS, HatV⟩, HtB, HtS, HtV⟩, HcB, HcV, #Hlev, ⟨⟨%fs, Hs⟩, ⟨%fr, Hr⟩, ⟨%fc, Hc⟩⟩, ⟨%W, HO⟩, HA, HB, ⟨%fo, Ho⟩⟩ Hk
  -- the signal to the partner, with this device's landing buffer
  iapply (Rounds.wp_signal 𝒱₀ ER (sched m) (c : Thread nD τ) none (dst := (peer c : Thread nD τ)) (sem := barS) (κ := K (peer c, .inl ()))
      (r := 0) (d := ()) (duties_mem m (peer c) (.inl ())) ((amount_cell m (peer c) (.inl ())).trans rfl) () (owedFor c chunks) rfl (W := W)) $$ [HO HtB Hr]
  · isplitr; · iapply (inv_at m K (peer c) (.inl ())); iexact HR
    isplitl [HO]; · iexact HO
    isplitl [HtB]; · iexact HtB
    isplitl [Hr]
    · iapply (show _ ⊢ (sched m).payload ((peer c : Thread nD τ), SemLoc.reg barS) 0 () from
        (rows_of_some rM (View.set_whole _) c fr).trans (Entails.of_eq ((payload_cell m (peer c) (.inl ())).trans (by unfold pay; rw [peer_peer])).symm))
      iexact Hr
    iapply (reached_at m K (peer c) (.inl ())); iexact HR
  iintro HO
  -- the wait for the partner's, which brings the partner's landing buffer
  iapply (wp_await m K c (.inl ()) (n := 1) rfl (wpE_semWait_eq 𝒱₀ (c : Thread nD τ) none Set.univ) _ (owedFor c chunks)) $$ [HcB HO HatB]
  · isplitr; · iexact HR
    isplitl [HcB]; · iexact HcB
    isplitl [HO]; · iexists W; iexact HO
    isplitr; · iapply (mayWait_bar c chunks); iexact Hlev
    iexact HatB
  iintro ⟨HO, HzB, Hl⟩
  unfold pay
  -- the right operand's copy
  iapply (wp_load 𝒱₀ (c : Thread nD τ) none Set.univ (m := bM) (Finset.subset_univ _)) $$ HB; iintro HB
  rw [read_b]
  iapply (wp_load 𝒱₀ (c : Thread nD τ) none Set.univ (m := cM) (Finset.subset_univ _)) $$ Hc; iintro Hc
  iapply (wp_store 𝒱₀ (c : Thread nD τ) none Set.univ (m := cM) (r := rhsR) (Mk := Finset.univ) (Finset.subset_univ _)) $$ Hc; iintro Hc
  rw [write_rhs]
  -- the first pass
  ihave Hs := (rows_of_some sM (View.set_whole _) c fs) $$ Hs
  iapply (wp_pass_all c (sending m K c) (toSend c) (sent m c) (wp_sendStep m K c)) $$ [HA Hc HO Hs Hl HtS HtV]
  · isplitl [HA Hc HO]
    · unfold sending
      isplitr; · iexact HR
      isplitl [HA]; · iexact HA
      isplitl [Hc] <;> iassumption
    · unfold toSend
      rw [bigSep_sep', bigSep_sep', bigSep_sep']
      isplitl [Hs]; · iexact Hs
      isplitl [Hl]; · iexact Hl
      isplitl [HtS] <;> iassumption
  unfold sending sent
  rw [bigSep_sep']
  iintro ⟨⟨-, HA, Hc, HO⟩, Hs, HcS⟩
  -- the second pass
  ihave Ho := (rows_of_some oM (View.set_whole _) c fo) $$ Ho
  iapply (wp_pass_all c (fun _ => settled m K c) (toSum m c) (summed m c) (fun i _ k Q => wp_sumStep m K c i k Q)) $$ [HO HcV HatV Hs Ho]
  · isplitl [HO]
    · unfold settled
      isplitr; · iexact HR
      iexact HO
    · unfold toSum
      rw [bigSep_sep', bigSep_sep', bigSep_sep']
      isplitl [HcV]; · iexact HcV
      isplitl [HatV]; · iexact HatV
      isplitl [Hs] <;> iassumption
  unfold summed
  rw [bigSep_sep', bigSep_sep', bigSep_sep']
  iintro ⟨HO, HzV, Hr, Hs, Ho⟩
  -- the third pass
  iapply (wp_pass_all c (fun _ => settled m K c) (toDone c) (done m c) (fun i _ k Q => wp_doneStep m K c i k Q)) $$ [HO HcS HatS]
  · isplitl [HO]; · iexact HO
    unfold toDone
    rw [bigSep_sep']
    isplitl [HcS] <;> iassumption
  unfold done settled
  rw [bigSep_sep']
  iintro ⟨⟨-, HO⟩, HzS, Hs'⟩
  unfold runs; rw [wp_ret]; imodintro
  iapply Hk
  unfold zeros
  isplitl [HzB HzV HzS]
  · isplitl [HzB]; · iexact HzB
    isplitl [HzS] <;> iassumption
  isplitl [Hs Hs' Hr Hc]
  · isplitl [Hs Hs']
    · iexists (own m c)
      iapply (show iprop((bigSep Finset.univ fun i => rowPts sM c i fullShare.left (own m c)) ∗ bigSep Finset.univ fun i => rowPts sM c i fullShare.right (own m c))
          ⊢ ((c : Thread nD τ).loc cc0_scratch0) ↦{fullShare} own m c from
        (Entails.of_eq (bigSep_sep' _ _ _).symm).trans ((bigSep_mono fun i _ => (rowPts_halves sM c i (own m c)).2).trans
          (Entails.of_eq (whole_rows sM (View.set_whole _) c fullShare (own m c)).symm)))
      isplitl [Hs] <;> iassumption
    isplitl [Hr]
    · iexists (own m (peer c))
      iapply (Entails.of_eq (whole_rows rM (View.set_whole _) c fullShare (own m (peer c))).symm); iexact Hr
    iexists _; iexact Hc
  isplitl [HO]; · iexact HO
  isplitl [HA]; · iexact HA
  isplitl [HB]; · iexact HB
  iapply (Entails.of_eq (whole_rows oM (View.set_whole _) c fullShare (total m c)).symm); iexact Ho

/-! ## The pipeline's obligation -/

theorem bigSep_W (Φ : Fin cfg0.W → sProp 𝕄) : bigSep Finset.univ Φ = iprop(Φ (0 : Fin 3) ∗ Φ (1 : Fin 3) ∗ Φ (2 : Fin 3)) := bigSep_W0 Φ

/-- Before the body an operand's window holds what was fetched. -/
theorem before_A (c : Dev nD) (d) : (dats m 0 c).before (0 : Fin 3) t0_0 d = xA m c := by
  unfold Dat.before; rw [if_pos (fetch0_0 t0_0)]; rfl
theorem before_B (c : Dev nD) (d) : (dats m 0 c).before (1 : Fin 3) t0_0 d = xB m c := by
  unfold Dat.before; rw [if_pos (fetch0_1 t0_0)]; rfl

/-- What the pipeline gives the body; -/
def bodyPre (c : Dev nD) : sProp 𝕄 :=
  iprop((start m c ∗ scratch c) ∗ (dats m 0 c).owesAt () (t0_0 : Fin cfg0.N).castSucc
    ∗ (∃ d, holds c cc0_stg0_0 ((dats m 0 c).before (0 : Fin 3) t0_0 d))
    ∗ (∃ d, holds c cc0_stg1_0 ((dats m 0 c).before (1 : Fin 3) t0_0 d))
    ∗ (∃ d, holds c cc0_stg2_0 ((dats m 0 c).before (2 : Fin 3) t0_0 d)))

/-- what it takes back. -/
def bodyPost (c : Dev nD) : sProp 𝕄 :=
  iprop((zeros c ∗ scratch c) ∗ (dats m 0 c).owesAt () (t0_0 : Fin cfg0.N).succ
    ∗ holds c cc0_stg0_0 (xA m c) ∗ holds c cc0_stg1_0 (xB m c) ∗ holds c cc0_stg2_0 (total m c))

/-- The printed body takes the one to the other. -/
theorem wp_body (c : Dev nD) :
    bodyPre m c ⊢ runs c (cc0_body (F := F) aM (Memref.isWhole_whole _) bM (Memref.isWhole_whole _) oM (Memref.isWhole_whole _) sM (Memref.isWhole_whole _)
        rM (Memref.isWhole_whole _) cM (Memref.isWhole_whole _) cc0_scratch3 cc0_scratch4) (fun _ => bodyPost m c) := by
  unfold runs
  rw [body_eq, wp_deviceId]
  change _ ⊢ runs c (bodyOf ⟨k0_dev1 c, k0_dev1_lt c⟩) _
  rw [dev_eq]
  unfold bodyPre start
  iintro ⟨⟨⟨⟨%K, Hg⟩, HcB, HcV, Hlev⟩, Hscr⟩, HO, ⟨%d0, %g0, %h0, HA⟩, ⟨%d1, %g1, %h1, HB⟩, ⟨%d2, %g2, %h2, Ho⟩⟩
  rw [before_A] at h0
  rw [before_B] at h1
  subst h0 h1
  unfold Dat.owesAt Pipeline.owesWithin
  icases HO with ⟨%W, %hW, HO⟩
  iapply (wp_bodyOf m K c) $$ [Hg HcB HcV Hlev Hscr HO HA HB Ho]
  · isplitl [Hg]; · iexact Hg
    isplitl [HcB]; · iexact HcB
    isplitl [HcV]; · iexact HcV
    isplitl [Hlev]; · iexact Hlev
    isplitl [Hscr]; · iexact Hscr
    isplitl [HO]; · iexists W; iexact HO
    isplitl [HA]; · iexact HA
    isplitl [HB]; · iexact HB
    iexists g2; iexact Ho
  iintro ⟨Hz, Hscr, ⟨%W', HO⟩, HA, HB, Ho⟩
  unfold bodyPost Dat.owesAt Pipeline.owesWithin
  isplitl [Hz Hscr]; · isplitl [Hz] <;> iassumption
  isplitl [HO]
  · iexists W'
    isplitr; · ipureintro; exact fun _ _ => Or.inl trivial
    iexact HO
  isplitl [HA]; · (iexists _; isplitr; · (ipureintro; rfl)); iexact HA
  isplitl [HB]; · (iexists _; isplitr; · (ipureintro; rfl)); iexact HB
  iexists _; isplitr; · (ipureintro; rfl)
  iexact Ho

set_option maxRecDepth 4000 in
/-- The pipeline's obligation on device `c`. -/
theorem body_obligation (c : Dev nD) : BodyObligation (dats m 0 c) (defs₀ (F := F)) 𝒱₀ () Set.univ := fun t => by
  rw [show t = t0_0 from fin_N0 t]
  rw [bigSep_W, bigSep_W]
  simp only [owns_whole_eq]
  exact wp_body m c

end Cert.Halves

end
-- ==== Proof.Run.lean ====
/-
The launch: the protocol's cells opened on every device at once, the tokens exchanged between partners, and the run.
-/
module

public import proofs.«01_k».proof.Proof.Body
public import proofs.«01_k».proof.Proof.Gen.KernelIdeal.Launch
public import Idealize.ShloMosaic.Adequacy
public import Idealize.ShloMosaic.Init
public import Idealize.ShloMosaic.Lib.Pipeline.CollectiveSegs

@[expose] public section

noncomputable section

namespace Cert.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- A conjunction over the roles, kind by kind. -/
theorem bigSep_role (Φ : Role → sProp 𝕄) :
    bigSep Finset.univ Φ = iprop(Φ (.inl ()) ∗ (bigSep Finset.univ fun i => Φ (.inr (.inl i))) ∗ bigSep Finset.univ fun i => Φ (.inr (.inr i))) := by
  rw [bigSep_univ_sum, bigSep_univ_sum (fun b => Φ (.inr b)), Finset.univ_unique, bigSep_singleton]; rfl

theorem pair_injective : Function.Injective fun ck : Dev nD × Role => cell ck.1 ck.2 := fun a b h =>
  Prod.ext (cell_inj h).1 (cell_inj h).2

theorem token_injective : Function.Injective fun ck : Dev nD × Role => ((cell ck.1 ck.2, 0, ()) : GSem nD τ sig × ℕ × Unit) := fun a b h =>
  pair_injective (congrArg Prod.fst h)

/-- Every cell of the protocol, -/
def allCells : Finset (GSem nD τ sig) := Finset.univ.map ⟨_, pair_injective⟩
/-- and the one duty of each. -/
def allToks : Finset (GSem nD τ sig × ℕ × Unit) := Finset.univ.map ⟨_, token_injective⟩

/-- What the launch starts from: the pipeline's own element and the protocol's. -/
def u₀ : UU :=
  (initOf (Pipeline.cells cfgs cellOf_inj) (Pipeline.launchToks cfgs cellOf_inj), initOf allCells allToks)

/-- The part of it dealt to device `c`: of each of its cells the state, the position, the mark and the token. -/
def dealt (c : Dev nD) : sProp 𝕄 :=
  iprop((bigSep Finset.univ fun k : Role => roundState ER (sched m) (cell c k) 0) ∗ (bigSep Finset.univ fun k : Role => atPos ER (cell c k) 0 ∅ 0)
    ∗ (bigSep Finset.univ fun k : Role => reached ER (cell c k) 0) ∗ (bigSep Finset.univ fun k : Role => dutyTok ER (cell c k) 0 ()))

theorem deal : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Role => Φ (cell c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Role => dutyTok ER (cell c k) 0 () := by
    unfold allToks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr] <;> iassumption

/-! ## The counters -/

theorem ownSemFacts : Pipeline.OwnSemFacts cfg0.spec osem := by decide

/-- The launch's one semaphore outside the kernel is the barrier's. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- The kernel's are the departures' and the arrivals'. -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendC c i) 0) ∗ bigSep Finset.univ fun i => semVal (recvC c i) 0) := by
  change bigSep Finset.univ (fun k : Fin 8 ⊕ Fin 8 => (semVal (cell c (.inr k)) 0 : sProp 𝕄)) = _
  rw [bigSep_univ_sum]; rfl

/-- Together they are the counters of the device's cells. -/
theorem zeros_role (c : Dev nD) : (zeros c : sProp 𝕄) = bigSep Finset.univ fun k : Role => semVal (cell c k) 0 := by
  rw [bigSep_role]; rfl

/-! ## Opening the cells -/

/-- Device `c`'s counters and states make its cells' records. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Role => iprop(∃ κ : ℕ, cellInv ER (sched m) κ (cell c k)))
          ∗ (bigSep Finset.univ fun k : Role => atPos ER (cell c k) 0 ∅ 0)
          ∗ (bigSep Finset.univ fun k : Role => reached ER (cell c k) 0) ∗ (bigSep Finset.univ fun k : Role => dutyTok ER (cell c k) 0 ())) := by
  unfold dealt
  rw [ownSems0_eq, unscopedSems0_eq]
  iintro ⟨⟨HS, HV⟩, HB, Hst, Hrest⟩
  ihave Hz := (Entails.of_eq (zeros_role (F := F) c)) $$ [HS HV HB]
  · unfold zeros
    isplitl [HB]; · iexact HB
    isplitl [HS] <;> iassumption
  imod (show iprop((bigSep Finset.univ fun k : Role => semVal (cell c k) 0) ∗ bigSep Finset.univ fun k : Role => roundState ER (sched m) (cell c k) 0)
      ⊢ (|={Set.univ}=> bigSep Finset.univ fun k : Role => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hz Hst] with Hinv
  · isplitl [Hz] <;> iassumption
  imodintro
  isplitl [Hinv] <;> iassumption

/-- What a device keeps of the exchange: its positions, and the tokens of the duties it pays. -/
def share (c : Dev nD) : sProp 𝕄 :=
  iprop((atPos ER (barC c) 0 ∅ 0 ∗ (bigSep Finset.univ fun i => atPos ER (sendC c i) 0 ∅ 0) ∗ (bigSep Finset.univ fun i => atPos ER (recvC c i) 0 ∅ 0))
    ∗ (dutyTok ER (barC (peer c)) 0 () ∗ (bigSep Finset.univ fun i => dutyTok ER (sendC c i) 0 ()) ∗ (bigSep Finset.univ fun i => dutyTok ER (recvC (peer c) i) 0 ())))

/-- Partners exchange the tokens of their barriers and of their arrivals. -/
theorem exchange :
    iprop((bigSep Finset.univ fun c : Dev nD => bigSep Finset.univ fun k : Role => (atPos ER (cell c k) 0 ∅ 0 : sProp 𝕄))
        ∗ (bigSep Finset.univ fun c : Dev nD => bigSep Finset.univ fun k : Role => dutyTok ER (cell c k) 0 ()))
      ⊢ bigSep Finset.univ fun c : Dev nD => share c := by
  unfold share
  simp only [bigSep_role]
  simp only [bigSep_sep']
  rw [bigSep_univ_equiv swap (fun c : Dev nD => (dutyTok ER (barC c) 0 () : sProp 𝕄)),
    bigSep_univ_equiv swap (fun c : Dev nD => (bigSep Finset.univ fun i => dutyTok ER (recvC c i) 0 () : sProp 𝕄))]
  exact BI.Entails.refl _

/-- Records shared, every device gets its ghost state. -/
theorem ghosts (K : Dev nD × Role → ℕ) :
    iprop(records m K ∗ bigSep Finset.univ fun c : Dev nD => share c) ⊢ bigSep Finset.univ fun c : Dev nD => iprop(∃ K, ghost m K c) := by
  refine (sep_mono_left (BI.bigSep_of_persistent (Finset.univ : Finset (Dev nD)) (records m K))).trans ?_
  rw [← bigSep_sep']
  refine bigSep_mono fun c _ => ?_
  change iprop(records m K ∗ share c) ⊢ iprop(∃ K, ghost m K c)
  iintro H
  iexists K
  unfold ghost share
  iexact H

/-- The records of all devices named together, and the tokens exchanged. -/
theorem regroup :
    (bigSep Finset.univ fun c : Dev nD => iprop((bigSep Finset.univ fun k : Role => iprop(∃ κ : ℕ, cellInv ER (sched m) κ (cell c k)))
          ∗ (bigSep Finset.univ fun k : Role => atPos ER (cell c k) 0 ∅ 0)
          ∗ (bigSep Finset.univ fun k : Role => reached ER (cell c k) 0) ∗ (bigSep Finset.univ fun k : Role => dutyTok ER (cell c k) 0 ())) : sProp 𝕄)
      ⊢ bigSep Finset.univ fun c : Dev nD => iprop(∃ K, ghost m K c) := by
  rw [bigSep_sep', bigSep_sep', bigSep_sep', ← bigSep_univ_prod (fun ck : Dev nD × Role => iprop(∃ κ : ℕ, cellInv ER (sched m) κ (cell ck.1 ck.2))),
    ← bigSep_univ_prod (fun ck : Dev nD × Role => (reached ER (cell ck.1 ck.2) 0 : sProp 𝕄))]
  iintro ⟨HI, Hat, HR, Htok⟩
  ihave HK := (BI.bigSep_exists_pi Finset.univ (fun (ck : Dev nD × Role) (κ : ℕ) => (cellInv ER (sched m) κ (cell ck.1 ck.2) : sProp 𝕄))) $$ HI
  icases HK with ⟨%K, HI⟩
  iapply (ghosts m K)
  isplitl [HI HR]
  · unfold records; isplitl [HI] <;> iassumption
  iapply (exchange (F := F))
  isplitl [Hat] <;> iassumption

/-- The one step taken on all devices together. -/
theorem glob :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ fun c : Dev nD => iprop(∃ K, ghost m K c) :=
  ((bigSep_mono fun c _ => open_cells m c).trans (bigSep_fupd _ _)).trans (BI.fupd_mono (regroup m))

/-! ## The credit a device is launched with -/

theorem owed_bar (d c : Dev nD) : owed₀ d (barC c) () = if d = peer c then 1 else 0 := by
  unfold owed₀
  have h0 : owedFor d chunks (barC c) () = 0 := Nat.eq_zero_of_not_pos fun h => by
    obtain ⟨i, hi⟩ := owedFor_pos d chunks h
    cases (cell_inj hi).2
  rw [Pi.add_apply, Finsupp.add_apply, h0, Nat.zero_add, tallyAt_apply]
  by_cases h : d = peer c
  · subst h; rw [peer_peer, if_pos ⟨rfl, rfl⟩, if_pos rfl]
  · rw [if_neg (fun ⟨h1, _⟩ => h (eq_peer_comm.mp (cell_inj h1).1.symm)), if_neg h]

theorem owed_recv (d c : Dev nD) (i : Fin 8) : owed₀ d (recvC c i) () = if d = peer c then N else 0 := by
  unfold owed₀
  have hb : ¬(recvC c i = barC (peer d) ∧ () = ()) := fun h => by cases (cell_inj h.1).2
  rw [Pi.add_apply, Finsupp.add_apply, owedFor_recv, tallyAt_apply, if_neg hb, Nat.add_zero,
    (by decide : ∀ i, chunks.count i = 1) i, Nat.one_mul]

/-- One device owes a cell `n`, no other anything: the launch credits the cell `n`. -/
theorem launch_of (g : GSem nD τ sig) (p : Dev nD) (n : ℕ) (h : ∀ d, owed₀ d g () = if d = p then n else 0) :
    tallyOn g (launchCredit (Pipeline.owing owed₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ p fun _ => n, if_pos (Finset.mem_univ _)]

theorem credits (c : Dev nD) :
    (Pipeline.launchCred owed₀ c : sProp 𝕄) ⊢ iprop(cred (tallyAt (barC c) () 1) ∗ bigSep Finset.univ fun i => cred (tallyAt (recvC c i) () N)) := by
  unfold Pipeline.launchCred
  refine (BI.bigSep_subset (Finset.subset_univ (Finset.univ.map ⟨csem, csem_injective⟩))).trans ?_
  rw [bigSep_map, bigSep_role]
  change iprop(cred (tallyOn (barC c) (launchCredit (Pipeline.owing owed₀) 0 (barC c)))
    ∗ (bigSep Finset.univ fun i => cred (tallyOn (sendC c i) (launchCredit (Pipeline.owing owed₀) 0 (sendC c i))))
    ∗ (bigSep Finset.univ fun i => cred (tallyOn (recvC c i) (launchCredit (Pipeline.owing owed₀) 0 (recvC c i))))) ⊢ _
  iintro ⟨HB, -, HV⟩
  isplitl [HB]
  · iapply (Entails.of_eq (congrArg _ (launch_of (barC c) (peer c) 1 fun d => owed_bar d c))); iexact HB
  · iapply (Entails.of_eq (bigSep_congr fun i _ => congrArg _ (launch_of (recvC c i) (peer c) N fun d => owed_recv d c i))); iexact HV

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ (∃ K, ghost m K c))
      ⊢ |={Set.univ}=> iprop(start m c ∗ emp) := by
  iintro ⟨-, Hlev, Hcr, -, HG⟩
  ihave Hc := (credits (F := F) c) $$ Hcr
  icases Hc with ⟨H1, HN⟩
  imodintro
  unfold start
  isplitl
  · isplitl [HG]; · iexact HG
    isplitl [H1]; · iexact H1
    isplitl [HN] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  iintro ⟨Hs, -, Hr⟩
  isplitl [Hs]; · iexact Hs
  unfold scratch
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(zeros c ∗ scratch c) from rfl, scopedRest0_eq, ownSems0_eq, unscopedSems0_eq]
  unfold zeros scratch
  iintro ⟨⟨HzB, HzS⟩, Hr⟩
  isplitl [HzB]; · iexact HzB
  isplitl [HzS] <;> iassumption

theorem waits (c : Dev nD) : (levAts L lv : sProp 𝕄) ⊢ Pipeline.cellsWaits cfgs (dats m) () 0 c :=
  Pipeline.cellsWaits_intro cfgs (dats m) () 0 c fun w s t => by
    have hs : ∀ k, csem k ≠ .dma (((cfgs (0 : Fin 1)).win w).sem s) := by fin_cases w <;> fin_cases s <;> decide
    rcases t with ⟨_ | _, ht⟩
    · exact mayWait_stage c _ hs
    · change _ ⊢ MayWait _ _ () 0
      rw [MayWait_zero]; iintro -; iempintro

/-- The windows' arrays after the run. -/
def finalA (c : Dev nD) (w : Fin cfg0.W) : Buf (Elt F) ((cfg0.win w).arr.view.loc (c : Thread nD τ)) := (dats m 0 c).arrAt w cfg0.N

set_option maxRecDepth 8000 in
/-- From any memory with counters at zero every weakly fair execution terminates, with the arrays as the windows leave
    them and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := owed₀) (howed₀ := fun _ => rfl) (howedN := fun _ => rfl)
    (L := L) (lv := lv) (hL := L_of_ne) (hwaits := waits m)
    (G := dealt m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Halves

end
-- ==== Proof.Value.lean ====
/-
The values: over the extended reals the sum of two partners' products is a column block of the whole product.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.ValueKit.Geometry

@[expose] public section

noncomputable section

namespace Cert.Halves

open Cert.KernelIdeal Cert.KernelIdeal.Gen
open Idealize.ShloMosaic Idealize.ShloMosaic.TcCoe Idealize.ShloMosaic.ValueIdx
open Idealize.SL Idealize.SL.Sem
open scoped BigOperators

/-! ## What the run leaves in the arrays, for any floats -/

section Arrays

variable {F : FTy → Type} [FloatOps F] (m : (ℓ : Loc nD τ sig) → Buf (Elt F) ℓ)

theorem finalA_lhs (c : Dev nD) : finalA m c (0 : Fin 3) = m ((c : Thread nD τ).loc main_arg0) := (dats m 0 c).arrAt_in (0 : Fin 3) rfl _
theorem finalA_rhs (c : Dev nD) : finalA m c (1 : Fin 3) = m ((c : Thread nD τ).loc main_arg1) := (dats m 0 c).arrAt_in (1 : Fin 3) rfl _

/-- The result array ends at the sum of the two partners' products. -/
theorem finalA_out (c : Dev nD) : finalA m c (2 : Fin 3) = total m c :=
  (dats m 0 c).arrAt_eq_of_after_last (2 : Fin 3) t0_0 (by decide +kernel) (total m c) fun j => rfl

/-- The staged left operand is the array. -/
theorem xA_apply (c : Dev nD) (r : Fin 1024) (k : Fin 512) : xA m c (ix2 r k) = m ((c : Thread nD τ).loc main_arg0) (ix2 r k) := by
  unfold xA
  rw [View.read_apply]
  refine congrArg (m ((c : Thread nD τ).loc main_arg0)) ?_
  funext a; apply Fin.ext
  match a with
  | ⟨0, _⟩ => change 0 * 1024 + 1 * r.val = r.val; omega
  | ⟨1, _⟩ => change 0 * 512 + 1 * k.val = k.val; omega

/-- The staged right operand is the array. -/
theorem xB_apply (c : Dev nD) (k : Fin 512) (q : Fin 1024) : xB m c (ix2 k q) = m ((c : Thread nD τ).loc main_arg1) (ix2 k q) := by
  unfold xB
  rw [View.read_apply]
  refine congrArg (m ((c : Thread nD τ).loc main_arg1)) ?_
  funext a; apply Fin.ext
  match a with
  | ⟨0, _⟩ => change 0 * 512 + 1 * k.val = k.val; omega
  | ⟨1, _⟩ => change 0 * 1024 + 1 * q.val = q.val; omega

end Arrays

/-! ## The payloads over the extended reals -/

variable (m : (ℓ : Loc nD τ sig) → Buf (Elt Ideal) ℓ)

/-- The left operand as device `c` holds it, -/
abbrev lhs (c : Dev nD) : S1024x512.Idx → EReal := m ((c : Thread nD τ).loc main_arg0)
/-- and the right. -/
abbrev rhs (c : Dev nD) : S512x1024.Idx → EReal := m ((c : Thread nD τ).loc main_arg1)

/-- A chunk's product at an index, from any operands. -/
theorem partOf_apply (a : Vec Ideal S128x512 .bf16) (b : Vec Ideal S512x1024 .bf16) (r : Fin 128) (q : Fin 1024) :
    partOf a b (ix2 r q) = ∑ k : Fin 512, a (ix2 r k) * b (ix2 k q) := by
  unfold partOf k0_pay2
  rw [shapeCast_self, shapeCast_self]
  refine (Ideal.matmul_plain_apply (M := 128) (K := 512) (N := 1024) (φ₁ := .bf16) (φ₂ := .bf16) none a b _ r q).trans ?_
  exact (congrArg (fun z : EReal => z + _) Ideal.ofBits_zero_f32).trans (zero_add _)

/-- Two chunks' sum at an index. -/
theorem sumOf_apply (s t : Vec Ideal S128x1024 .bf16) (j : S128x1024.Idx) : (sumOf s t j : EReal) = (s j : EReal) + t j := rfl

/-- The row of the whole that row `r` of chunk `i` is. -/
def rowAt (i : Fin 8) (r : Fin 128) : Fin 1024 := ⟨128 * i.val + r.val, by omega⟩

/-- Device `c`'s product on chunk `i` at an index. -/
theorem part_apply (c : Dev nD) (i : Fin 8) (r : Fin 128) (q : Fin 1024) :
    part m c i (ix2 r q) = ∑ k : Fin 512, lhs m c (ix2 (rowAt i r) k) * rhs m c (ix2 k q) := by
  unfold part k0_pay1
  rw [partOf_apply, shapeCast_self, shapeCast_self]
  refine Finset.sum_congr rfl fun k _ => ?_
  refine congrArg₂ (fun s t : EReal => s * t) ((congrArg (xA m c) ?_).trans (xA_apply m c (rowAt i r) k)) (xB_apply m c k q)
  funext a; apply Fin.ext
  match a with
  | ⟨0, _⟩ => change 128 * i.val + 1 * r.val = 128 * i.val + r.val; omega
  | ⟨1, _⟩ => change 0 + 1 * k.val = k.val; omega

/-- The sum of the two products at an index. -/
theorem total_apply (c : Dev nD) (p : Fin 1024) (q : Fin 1024) :
    total m c (ix2 p q)
      = (∑ k : Fin 512, lhs m c (ix2 p k) * rhs m c (ix2 k q))
        + ∑ k : Fin 512, lhs m (peer c) (ix2 p k) * rhs m (peer c) (ix2 k q) := by
  have hw : within (ix2 p q) = ix2 (n0 := 128) (n1 := 1024) ⟨p.val % 128, Nat.mod_lt _ (by decide)⟩ q := by
    funext a; match a with | ⟨0, _⟩ => rfl | ⟨1, _⟩ => rfl
  have hr : rowAt (chunkOf (ix2 p q)) ⟨p.val % 128, Nat.mod_lt _ (by decide)⟩ = p := by
    apply Fin.ext; change 128 * (p.val / 128) + p.val % 128 = p.val; omega
  unfold total tile
  beta_reduce
  rw [hw, sumOf_apply, part_apply, part_apply, hr]

/-! ## The blocks the devices hold -/

/-- A device's row of the mesh. -/
def rowOf (c : Dev nD) : Fin 2 := ⟨c.val / 2 % 2, Nat.mod_lt _ (by decide)⟩
/-- A device's column of the mesh. -/
def colOf (c : Dev nD) : Fin 2 := ⟨c.val % 2, Nat.mod_lt _ (by decide)⟩

/-- Position `k` of half `x` of the contracted axis. -/
def half (x : Fin 2) (k : Fin 512) : Fin 1024 := ⟨x.val * 512 + k.val, by omega⟩
/-- Position `q` of half `y` of the columns. -/
def wide (y : Fin 2) (q : Fin 1024) : Fin 2048 := ⟨y.val * 1024 + q.val, by omega⟩

theorem block_lhs (v : (⟨2, ![1024, 1024]⟩ : Shape).Idx → EReal) (c : Dev nD) (r : Fin 1024) (k : Fin 512) :
    Layout.blockN ⟨2, ![1024, 512]⟩ ⟨2, ![1024, 1024]⟩ (Layout.meshBlock [2, 2] ![[], [0]] c) v (by decide) (ix2 r k) = v (ix2 r (half (rowOf c) k)) := by
  refine congrArg v ?_
  funext a; apply Fin.ext
  match a with
  | ⟨0, _⟩ => change 0 * 1024 + r.val = r.val; omega
  | ⟨1, _⟩ => change (c.val / 2 % 2 * 1 + 0) * 512 + k.val = c.val / 2 % 2 * 512 + k.val; omega

theorem block_rhs (v : (⟨2, ![1024, 2048]⟩ : Shape).Idx → EReal) (c : Dev nD) (k : Fin 512) (q : Fin 1024) :
    Layout.blockN ⟨2, ![512, 1024]⟩ ⟨2, ![1024, 2048]⟩ (Layout.meshBlock [2, 2] ![[0], [1]] c) v (by decide) (ix2 k q)
      = v (ix2 (half (rowOf c) k) (wide (colOf c) q)) := by
  refine congrArg v ?_
  funext a; apply Fin.ext
  match a with
  | ⟨0, _⟩ => change (c.val / 2 % 2 * 1 + 0) * 512 + k.val = c.val / 2 % 2 * 512 + k.val; omega
  | ⟨1, _⟩ => change (c.val / 1 % 2 * 1 + 0) * 1024 + q.val = c.val % 2 * 1024 + q.val; omega

theorem block_out (v : (⟨2, ![1024, 2048]⟩ : Shape).Idx → EReal) (c : Dev nD) (p : Fin 1024) (q : Fin 1024) :
    Layout.blockN ⟨2, ![1024, 1024]⟩ ⟨2, ![1024, 2048]⟩ (Layout.meshBlock [2, 2] ![[], [1]] c) v (by decide) (ix2 p q) = v (ix2 p (wide (colOf c) q)) := by
  refine congrArg v ?_
  funext a; apply Fin.ext
  match a with
  | ⟨0, _⟩ => change 0 * 1024 + p.val = p.val; omega
  | ⟨1, _⟩ => change (c.val / 1 % 2 * 1 + 0) * 1024 + q.val = c.val % 2 * 1024 + q.val; omega

/-- Partners are in one column, -/
theorem colOf_peer (c : Dev nD) : colOf (peer c) = colOf c := by revert c; decide
/-- in the two rows. -/
theorem rowOf_pair (c : Dev nD) : (rowOf c = 0 ∧ rowOf (peer c) = 1) ∨ (rowOf c = 1 ∧ rowOf (peer c) = 0) := by revert c; decide

/-- A sum over the contracted axis is the sums over its halves. -/
theorem sum_halves (f : Fin 1024 → EReal) : ∑ k, f k = ∑ k, f (half 0 k) + ∑ k, f (half 1 k) := by
  refine (Fin.sum_univ_add (a := 512) (b := 512) f).trans (congrArg₂ (· + ·) ?_ ?_) <;>
    refine Finset.sum_congr rfl fun k _ => congrArg f (Fin.ext ?_)
  · change k.val = 0 * 512 + k.val; omega
  · change 512 + k.val = 1 * 512 + k.val; omega

/-- In whichever order partners take them. -/
theorem sum_pair (f : Fin 1024 → EReal) (c : Dev nD) : ∑ k, f (half (rowOf c) k) + ∑ k, f (half (rowOf (peer c)) k) = ∑ k, f k := by
  rcases rowOf_pair c with ⟨h, h'⟩ | ⟨h, h'⟩ <;> rw [h, h', sum_halves f]
  exact add_comm _ _

/-! ## The whole product -/

/-- What the reference computes of its operands. -/
abbrev whole (A : (⟨2, ![1024, 1024]⟩ : Shape).Idx → EReal) (B : (⟨2, ![1024, 2048]⟩ : Shape).Idx → EReal) : (⟨2, ![1024, 2048]⟩ : Shape).Idx → EReal :=
  truncf (F := Ideal) (φ := .f32) .bf16 (Host.dotGeneral (F := Ideal) (φ₁ := .bf16) (φ₂ := .bf16)
    Cert.ReferenceIdeal.dot_S1024x1024_S1024x2048_S1024x2048_1_0_0_1_n_n none A B) Cert.ReferenceIdeal.Facts₀.bitsLt_bf16_f32

/-- It is the plain product. -/
theorem whole_apply (A : (⟨2, ![1024, 1024]⟩ : Shape).Idx → EReal) (B : (⟨2, ![1024, 2048]⟩ : Shape).Idx → EReal) (p : Fin 1024) (q : Fin 2048) :
    whole A B (ix2 p q) = ∑ k : Fin 1024, A (ix2 p k) * B (ix2 k q) :=
  StackMember.dotGeneral_plain_apply (m := 1024) (k := 1024) (n := 2048) (φ₁ := .bf16) (φ₂ := .bf16) none A B p q

/-- Where the devices hold their blocks of the operands, each ends with its block of the product. -/
theorem total_eq (A : (⟨2, ![1024, 1024]⟩ : Shape).Idx → EReal) (B : (⟨2, ![1024, 2048]⟩ : Shape).Idx → EReal)
    (hA : ∀ c : Dev nD, lhs m c = Layout.blockN ⟨2, ![1024, 512]⟩ ⟨2, ![1024, 1024]⟩ (Layout.meshBlock [2, 2] ![[], [0]] c) A)
    (hB : ∀ c : Dev nD, rhs m c = Layout.blockN ⟨2, ![512, 1024]⟩ ⟨2, ![1024, 2048]⟩ (Layout.meshBlock [2, 2] ![[0], [1]] c) B)
    (c : Dev nD) :
    total m c = Layout.blockN ⟨2, ![1024, 1024]⟩ ⟨2, ![1024, 2048]⟩ (Layout.meshBlock [2, 2] ![[], [1]] c) (whole A B) := by
  funext x
  obtain ⟨p, q, rfl⟩ : ∃ p q, x = ix2 (n0 := 1024) (n1 := 1024) p q := ⟨x 0, x 1, eq_ix2 x⟩
  rw [total_apply, hA, hB, hA, hB, block_out, whole_apply, ← sum_pair _ c]
  simp only [block_lhs, block_rhs, colOf_peer]

end Cert.Halves

end
-- ==== Proof.lean ====
/- The five claims: the kernel and its reading over the extended reals restore their arguments and come to rest, the
   reference does too, the reading keeps the kernel, and the devices' results are the blocks of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel's run at any floats, read at its arrays: the result at the two partners' sum, the arguments as they
    were, every counter at zero. -/
theorem kernel_run {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_v1) = Halves.total m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono (fun _ h => ⟨fun c => ⟨(h.1 c (2 : Fin 3)).trans (Halves.finalA_out m c),
    (h.1 c (0 : Fin 3)).trans (Halves.finalA_lhs m c), (h.1 c (1 : Fin 3)).trans (Halves.finalA_rhs m c)⟩, h.2⟩) (Halves.run_main m ρ)

/-- It restores its arguments and comes to rest. -/
theorem kernel_rests {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono (fun _ h => ⟨fun c => (h.1 c).2, h.2⟩) (kernel_run m ρ)

/-- The compiled kernel's body table is that of its reading: the two have the same text. -/
theorem bodies_eq {F : FTy → Type} [FloatOps F] :
    @Kernel.defs₀ F _ Kernel.Gen.facts = @KernelIdeal.defs₀ F _ KernelIdeal.Gen.facts := by
  have body : @Kernel.cc0_body F _ Kernel.Gen.facts = @KernelIdeal.cc0_body F _ KernelIdeal.Gen.facts := rfl
  unfold Kernel.defs₀ KernelIdeal.defs₀
  rw [body]
  congr 1
  funext l p
  match l, p with
  | 0, (_, _) => rfl

/-- So are its pipeline's definitions. -/
theorem defs_eq {F : FTy → Type} [FloatOps F] :
    @Kernel.defs F _ Kernel.Gen.facts = @KernelIdeal.defs F _ KernelIdeal.Gen.facts :=
  congrArg (Pipeline.defs (@KernelIdeal.pcfgs F KernelIdeal.Gen.facts)) bodies_eq

/-- So the compiled kernel too restores its arguments and comes to rest, -/
theorem kernel_quiescent : Cert.quiescent_Kernel (hKernel := Cert.Kernel.Gen.facts) := fun m g _ => by
  rw [defs_eq]
  exact kernel_rests (F := Bits) m g

/-- and its reading over the extended reals. -/
theorem ideal_quiescent : Cert.quiescent_KernelIdeal (hKernelIdeal := Cert.KernelIdeal.Gen.facts) := fun m g _ => kernel_rests (F := Ideal) m g

/-- The reference too: it has no semaphore at all. -/
theorem reference_quiescent : Cert.quiescent_ReferenceIdeal (hReferenceIdeal := Cert.ReferenceIdeal.Gen.facts) := fun m g _ =>
  (θ_run (ReferenceIdeal.defs (F := Ideal)) _ _).mono (fun r h => ⟨fun c => (h c).2, sem_eq_zero_of_no_sems (by decide) r.2⟩) (ReferenceIdeal.Value.run (F := Ideal) m g)

/-- From blocks of the reference's operands the devices compute the blocks of its result. -/
theorem computes : Cert.algebraic_KernelIdeal_ReferenceIdeal (hKernelIdeal := Cert.KernelIdeal.Gen.facts) (hReferenceIdeal := Cert.ReferenceIdeal.Gen.facts) :=
  fun m g m' g' _ hargs =>
    ⟨_, (θ_run (KernelIdeal.defs (F := Ideal)) _ _).mono
        (fun _ h c => ⟨(h.1 c).1.trans (Halves.total_eq m _ _ (fun d => (hargs d).1) (fun d => (hargs d).2) c), (h.1 c).2⟩) (kernel_run (F := Ideal) m g),
      (θ_run (ReferenceIdeal.defs (F := Ideal)) _ _).mono (fun _ h => h 0) (ReferenceIdeal.Value.run (F := Ideal) m' g')⟩

/-- Every claim. -/
theorem claim : Cert.Claim := ⟨Cert.Kernel.Gen.facts, Cert.KernelIdeal.Gen.facts, Cert.ReferenceIdeal.Gen.facts,
  kernel_quiescent, ideal_quiescent, reference_quiescent, trivial, computes⟩

end Cert.Proof

end
